-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x64 : Shape := ⟨2, ![16384, 64]⟩
abbrev S64 : Shape := ⟨1, ![64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S64 : S_.BroadcastsInDim S64 (![] : Fin 0 → Fin S64.rank)
  reducesTo_S64_S_d0 : S64.ReducesTo [0] S_

variable [Facts]

def fn {F : FTy → Type} [FloatOps F] (main_arg0 : FVec F S16384x64 .f32) (main_arg1 : FVec F S64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  main_v8
-- ==== Kernel.lean ====
abbrev S16384x64 : Shape := ⟨2, ![16384, 64]⟩
abbrev S64 : Shape := ⟨1, ![64]⟩
abbrev S1048576 : Shape := ⟨1, ![1048576]⟩
abbrev S32768 : Shape := ⟨1, ![32768]⟩
abbrev S1088 : Shape := ⟨1, ![1088]⟩
abbrev S_ : Shape := ⟨0, ![]⟩
abbrev S16 : Shape := ⟨1, ![16]⟩

abbrev nBuf : Table → Nat
  | .hbm => 5
  | .local .scVector .vmem => 4
  | _ => 0

abbrev bufTy : (tb : Table) → Fin (nBuf tb) → BufTy
  | .hbm, ⟨0, _⟩ => ⟨S16384x64, .f32⟩
  | .hbm, ⟨1, _⟩ => ⟨S64, .f32⟩
  | .hbm, ⟨2, _⟩ => ⟨S1048576, .f32⟩
  | .hbm, ⟨3, _⟩ => ⟨S1048576, .f32⟩
  | .hbm, ⟨4, _⟩ => ⟨S16384x64, .f32⟩
  | .local .scVector .vmem, ⟨0, _⟩ => ⟨S32768, .f32⟩
  | .local .scVector .vmem, ⟨1, _⟩ => ⟨S32768, .f32⟩
  | .local .scVector .vmem, ⟨2, _⟩ => ⟨S64, .f32⟩
  | .local .scVector .vmem, ⟨3, _⟩ => ⟨S1088, .f32⟩
  | _, _ => ⟨S16384x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v2 : BitVec 32 := Scalar.muli v1 c32768_i32
  ![v2.toNat]
@[reducible] def k0_t1_loop : Scf.Loop 32 :=
  let c0_i32_1 : BitVec 32 := 0#32
  let c512_i32 : BitVec 32 := 512#32
  let v10 : BitVec 32 := Scalar.addi c0_i32_1 c512_i32
  let c1_i32 : BitVec 32 := 1#32
  ⟨c0_i32_1, v10, c1_i32⟩
def k0_off2 (k0_t1 : Fin k0_t1_loop.trips) (c0_i32_7 : BitVec 32) : Fin 1 → Nat :=
  let c0_i32_1 : BitVec 32 := 0#32
  let c1_i32 : BitVec 32 := 1#32
  let arg9 : BitVec 32 := Scf.iv c0_i32_1 c1_i32 k0_t1
  let c64_i32 : BitVec 32 := 64#32
  let v14 : BitVec 32 := Scalar.muli arg9 c64_i32
  let v15 : BitVec 32 := Scalar.addi v14 c0_i32_7
  let v16 : Index := Scalar.indexCast v15
  ![v16.toNat]
@[reducible] def k0_t2_loop : Scf.Loop 32 :=
  let c0_i32_4 : BitVec 32 := 0#32
  let c32_i32 : BitVec 32 := 32#32
  let v12 : BitVec 32 := Scalar.addi c0_i32_4 c32_i32
  let c1_i32_5 : BitVec 32 := 1#32
  ⟨c0_i32_4, v12, c1_i32_5⟩
def k0_off3 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c0_i32_9 : BitVec 32 := 0#32
  let v21 : BitVec 32 := Scalar.addi v20 c0_i32_9
  let c0_i32_10 : BitVec 32 := 0#32
  let v22 : BitVec 32 := Scalar.addi v21 c0_i32_10
  let v23 : Index := Scalar.indexCast v22
  ![v23.toNat]

def k0_chk1 (v31 : IVec S16 32) : Prop :=
  (∀ a x, ((![v31] : Fin 1 → IVec S16 32) a x).toNat < S1088.size a)
theorem k0_idx1_inb : ∀ (v31 : IVec S16 32) (k0_hw1 : k0_chk1 v31), ∀ a x, ((![v31] : Fin 1 → IVec S16 32) a x).toNat < S1088.size a := fun v31 k0_hw1 => k0_hw1
def k0_off4 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c0_i32_13 : BitVec 32 := 0#32
  let v32 : BitVec 32 := Scalar.addi v20 c0_i32_13
  let c16_i32_14 : BitVec 32 := 16#32
  let v33 : BitVec 32 := Scalar.addi v32 c16_i32_14
  let v34 : Index := Scalar.indexCast v33
  ![v34.toNat]

def k0_chk2 (v42 : IVec S16 32) : Prop :=
  (∀ a x, ((![v42] : Fin 1 → IVec S16 32) a x).toNat < S1088.size a)
theorem k0_idx2_inb : ∀ (v42 : IVec S16 32) (k0_hw2 : k0_chk2 v42), ∀ a x, ((![v42] : Fin 1 → IVec S16 32) a x).toNat < S1088.size a := fun v42 k0_hw2 => k0_hw2
def k0_off5 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c0_i32_18 : BitVec 32 := 0#32
  let v43 : BitVec 32 := Scalar.addi v20 c0_i32_18
  let c32_i32_19 : BitVec 32 := 32#32
  let v44 : BitVec 32 := Scalar.addi v43 c32_i32_19
  let v45 : Index := Scalar.indexCast v44
  ![v45.toNat]

def k0_chk3 (v53 : IVec S16 32) : Prop :=
  (∀ a x, ((![v53] : Fin 1 → IVec S16 32) a x).toNat < S1088.size a)
theorem k0_idx3_inb : ∀ (v53 : IVec S16 32) (k0_hw3 : k0_chk3 v53), ∀ a x, ((![v53] : Fin 1 → IVec S16 32) a x).toNat < S1088.size a := fun v53 k0_hw3 => k0_hw3
def k0_off6 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c0_i32_23 : BitVec 32 := 0#32
  let v54 : BitVec 32 := Scalar.addi v20 c0_i32_23
  let c48_i32 : BitVec 32 := 48#32
  let v55 : BitVec 32 := Scalar.addi v54 c48_i32
  let v56 : Index := Scalar.indexCast v55
  ![v56.toNat]

def k0_chk4 (v64 : IVec S16 32) : Prop :=
  (∀ a x, ((![v64] : Fin 1 → IVec S16 32) a x).toNat < S1088.size a)
theorem k0_idx4_inb : ∀ (v64 : IVec S16 32) (k0_hw4 : k0_chk4 v64), ∀ a x, ((![v64] : Fin 1 → IVec S16 32) a x).toNat < S1088.size a := fun v64 k0_hw4 => k0_hw4
def k0_off7 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c64_i32_27 : BitVec 32 := 64#32
  let v65 : BitVec 32 := Scalar.addi v20 c64_i32_27
  let c0_i32_28 : BitVec 32 := 0#32
  let v66 : BitVec 32 := Scalar.addi v65 c0_i32_28
  let v67 : Index := Scalar.indexCast v66
  ![v67.toNat]

def k0_chk5 (v75 : IVec S16 32) : Prop :=
  (∀ a x, ((![v75] : Fin 1 → IVec S16 32) a x).toNat < S1088.size a)
theorem k0_idx5_inb : ∀ (v75 : IVec S16 32) (k0_hw5 : k0_chk5 v75), ∀ a x, ((![v75] : Fin 1 → IVec S16 32) a x).toNat < S1088.size a := fun v75 k0_hw5 => k0_hw5
def k0_off8 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c64_i32_32 : BitVec 32 := 64#32
  let v76 : BitVec 32 := Scalar.addi v20 c64_i32_32
  let c16_i32_33 : BitVec 32 := 16#32
  let v77 : BitVec 32 := Scalar.addi v76 c16_i32_33
  let v78 : Index := Scalar.indexCast v77
  ![v78.toNat]

def k0_chk6 (v86 : IVec S16 32) : Prop :=
  (∀ a x, ((![v86] : Fin 1 → IVec S16 32) a x).toNat < S1088.size a)
theorem k0_idx6_inb : ∀ (v86 : IVec S16 32) (k0_hw6 : k0_chk6 v86), ∀ a x, ((![v86] : Fin 1 → IVec S16 32) a x).toNat < S1088.size a := fun v86 k0_hw6 => k0_hw6
def k0_off9 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c64_i32_37 : BitVec 32 := 64#32
  let v87 : BitVec 32 := Scalar.addi v20 c64_i32_37
  let c32_i32_38 : BitVec 32 := 32#32
  let v88 : BitVec 32 := Scalar.addi v87 c32_i32_38
  let v89 : Index := Scalar.indexCast v88
  ![v89.toNat]

def k0_chk7 (v97 : IVec S16 32) : Prop :=
  (∀ a x, ((![v97] : Fin 1 → IVec S16 32) a x).toNat < S1088.size a)
theorem k0_idx7_inb : ∀ (v97 : IVec S16 32) (k0_hw7 : k0_chk7 v97), ∀ a x, ((![v97] : Fin 1 → IVec S16 32) a x).toNat < S1088.size a := fun v97 k0_hw7 => k0_hw7
def k0_off10 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c64_i32_42 : BitVec 32 := 64#32
  let v98 : BitVec 32 := Scalar.addi v20 c64_i32_42
  let c48_i32_43 : BitVec 32 := 48#32
  let v99 : BitVec 32 := Scalar.addi v98 c48_i32_43
  let v100 : Index := Scalar.indexCast v99
  ![v100.toNat]

def k0_chk8 (v108 : IVec S16 32) : Prop :=
  (∀ a x, ((![v108] : Fin 1 → IVec S16 32) a x).toNat < S1088.size a)
theorem k0_idx8_inb : ∀ (v108 : IVec S16 32) (k0_hw8 : k0_chk8 v108), ∀ a x, ((![v108] : Fin 1 → IVec S16 32) a x).toNat < S1088.size a := fun v108 k0_hw8 => k0_hw8
def k0_off11 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c128_i32 : BitVec 32 := 128#32
  let v109 : BitVec 32 := Scalar.addi v20 c128_i32
  let c0_i32_47 : BitVec 32 := 0#32
  let v110 : BitVec 32 := Scalar.addi v109 c0_i32_47
  let v111 : Index := Scalar.indexCast v110
  ![v111.toNat]

def k0_chk9 (v119 : IVec S16 32) : Prop :=
  (∀ a x, ((![v119] : Fin 1 → IVec S16 32) a x).toNat < S1088.size a)
theorem k0_idx9_inb : ∀ (v119 : IVec S16 32) (k0_hw9 : k0_chk9 v119), ∀ a x, ((![v119] : Fin 1 → IVec S16 32) a x).toNat < S1088.size a := fun v119 k0_hw9 => k0_hw9
def k0_off12 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c128_i32_51 : BitVec 32 := 128#32
  let v120 : BitVec 32 := Scalar.addi v20 c128_i32_51
  let c16_i32_52 : BitVec 32 := 16#32
  let v121 : BitVec 32 := Scalar.addi v120 c16_i32_52
  let v122 : Index := Scalar.indexCast v121
  ![v122.toNat]

def k0_chk10 (v130 : IVec S16 32) : Prop :=
  (∀ a x, ((![v130] : Fin 1 → IVec S16 32) a x).toNat < S1088.size a)
theorem k0_idx10_inb : ∀ (v130 : IVec S16 32) (k0_hw10 : k0_chk10 v130), ∀ a x, ((![v130] : Fin 1 → IVec S16 32) a x).toNat < S1088.size a := fun v130 k0_hw10 => k0_hw10
def k0_off13 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c128_i32_56 : BitVec 32 := 128#32
  let v131 : BitVec 32 := Scalar.addi v20 c128_i32_56
  let c32_i32_57 : BitVec 32 := 32#32
  let v132 : BitVec 32 := Scalar.addi v131 c32_i32_57
  let v133 : Index := Scalar.indexCast v132
  ![v133.toNat]

def k0_chk11 (v141 : IVec S16 32) : Prop :=
  (∀ a x, ((![v141] : Fin 1 → IVec S16 32) a x).toNat < S1088.size a)
theorem k0_idx11_inb : ∀ (v141 : IVec S16 32) (k0_hw11 : k0_chk11 v141), ∀ a x, ((![v141] : Fin 1 → IVec S16 32) a x).toNat < S1088.size a := fun v141 k0_hw11 => k0_hw11
def k0_off14 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c128_i32_61 : BitVec 32 := 128#32
  let v142 : BitVec 32 := Scalar.addi v20 c128_i32_61
  let c48_i32_62 : BitVec 32 := 48#32
  let v143 : BitVec 32 := Scalar.addi v142 c48_i32_62
  let v144 : Index := Scalar.indexCast v143
  ![v144.toNat]

def k0_chk12 (v152 : IVec S16 32) : Prop :=
  (∀ a x, ((![v152] : Fin 1 → IVec S16 32) a x).toNat < S1088.size a)
theorem k0_idx12_inb : ∀ (v152 : IVec S16 32) (k0_hw12 : k0_chk12 v152), ∀ a x, ((![v152] : Fin 1 → IVec S16 32) a x).toNat < S1088.size a := fun v152 k0_hw12 => k0_hw12
def k0_off15 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c192_i32 : BitVec 32 := 192#32
  let v153 : BitVec 32 := Scalar.addi v20 c192_i32
  let c0_i32_66 : BitVec 32 := 0#32
  let v154 : BitVec 32 := Scalar.addi v153 c0_i32_66
  let v155 : Index := Scalar.indexCast v154
  ![v155.toNat]

def k0_chk13 (v163 : IVec S16 32) : Prop :=
  (∀ a x, ((![v163] : Fin 1 → IVec S16 32) a x).toNat < S1088.size a)
theorem k0_idx13_inb : ∀ (v163 : IVec S16 32) (k0_hw13 : k0_chk13 v163), ∀ a x, ((![v163] : Fin 1 → IVec S16 32) a x).toNat < S1088.size a := fun v163 k0_hw13 => k0_hw13
def k0_off16 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c192_i32_69 : BitVec 32 := 192#32
  let v164 : BitVec 32 := Scalar.addi v20 c192_i32_69
  let c16_i32_70 : BitVec 32 := 16#32
  let v165 : BitVec 32 := Scalar.addi v164 c16_i32_70
  let v166 : Index := Scalar.indexCast v165
  ![v166.toNat]

def k0_chk14 (v174 : IVec S16 32) : Prop :=
  (∀ a x, ((![v174] : Fin 1 → IVec S16 32) a x).toNat < S1088.size a)
theorem k0_idx14_inb : ∀ (v174 : IVec S16 32) (k0_hw14 : k0_chk14 v174), ∀ a x, ((![v174] : Fin 1 → IVec S16 32) a x).toNat < S1088.size a := fun v174 k0_hw14 => k0_hw14
def k0_off17 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c192_i32_74 : BitVec 32 := 192#32
  let v175 : BitVec 32 := Scalar.addi v20 c192_i32_74
  let c32_i32_75 : BitVec 32 := 32#32
  let v176 : BitVec 32 := Scalar.addi v175 c32_i32_75
  let v177 : Index := Scalar.indexCast v176
  ![v177.toNat]

def k0_chk15 (v185 : IVec S16 32) : Prop :=
  (∀ a x, ((![v185] : Fin 1 → IVec S16 32) a x).toNat < S1088.size a)
theorem k0_idx15_inb : ∀ (v185 : IVec S16 32) (k0_hw15 : k0_chk15 v185), ∀ a x, ((![v185] : Fin 1 → IVec S16 32) a x).toNat < S1088.size a := fun v185 k0_hw15 => k0_hw15
def k0_off18 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c192_i32_79 : BitVec 32 := 192#32
  let v186 : BitVec 32 := Scalar.addi v20 c192_i32_79
  let c48_i32_80 : BitVec 32 := 48#32
  let v187 : BitVec 32 := Scalar.addi v186 c48_i32_80
  let v188 : Index := Scalar.indexCast v187
  ![v188.toNat]

def k0_chk16 (v196 : IVec S16 32) : Prop :=
  (∀ a x, ((![v196] : Fin 1 → IVec S16 32) a x).toNat < S1088.size a)
theorem k0_idx16_inb : ∀ (v196 : IVec S16 32) (k0_hw16 : k0_chk16 v196), ∀ a x, ((![v196] : Fin 1 → IVec S16 32) a x).toNat < S1088.size a := fun v196 k0_hw16 => k0_hw16
def k0_off19 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c256_i32 : BitVec 32 := 256#32
  let v197 : BitVec 32 := Scalar.addi v20 c256_i32
  let c0_i32_84 : BitVec 32 := 0#32
  let v198 : BitVec 32 := Scalar.addi v197 c0_i32_84
  let v199 : Index := Scalar.indexCast v198
  ![v199.toNat]

def k0_chk17 (v207 : IVec S16 32) : Prop :=
  (∀ a x, ((![v207] : Fin 1 → IVec S16 32) a x).toNat < S1088.size a)
theorem k0_idx17_inb : ∀ (v207 : IVec S16 32) (k0_hw17 : k0_chk17 v207), ∀ a x, ((![v207] : Fin 1 → IVec S16 32) a x).toNat < S1088.size a := fun v207 k0_hw17 => k0_hw17
def k0_off20 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c256_i32_87 : BitVec 32 := 256#32
  let v208 : BitVec 32 := Scalar.addi v20 c256_i32_87
  let c16_i32_88 : BitVec 32 := 16#32
  let v209 : BitVec 32 := Scalar.addi v208 c16_i32_88
  let v210 : Index := Scalar.indexCast v209
  ![v210.toNat]

def k0_chk18 (v218 : IVec S16 32) : Prop :=
  (∀ a x, ((![v218] : Fin 1 → IVec S16 32) a x).toNat < S1088.size a)
theorem k0_idx18_inb : ∀ (v218 : IVec S16 32) (k0_hw18 : k0_chk18 v218), ∀ a x, ((![v218] : Fin 1 → IVec S16 32) a x).toNat < S1088.size a := fun v218 k0_hw18 => k0_hw18
def k0_off21 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c256_i32_92 : BitVec 32 := 256#32
  let v219 : BitVec 32 := Scalar.addi v20 c256_i32_92
  let c32_i32_93 : BitVec 32 := 32#32
  let v220 : BitVec 32 := Scalar.addi v219 c32_i32_93
  let v221 : Index := Scalar.indexCast v220
  ![v221.toNat]

def k0_chk19 (v229 : IVec S16 32) : Prop :=
  (∀ a x, ((![v229] : Fin 1 → IVec S16 32) a x).toNat < S1088.size a)
theorem k0_idx19_inb : ∀ (v229 : IVec S16 32) (k0_hw19 : k0_chk19 v229), ∀ a x, ((![v229] : Fin 1 → IVec S16 32) a x).toNat < S1088.size a := fun v229 k0_hw19 => k0_hw19
def k0_off22 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c256_i32_97 : BitVec 32 := 256#32
  let v230 : BitVec 32 := Scalar.addi v20 c256_i32_97
  let c48_i32_98 : BitVec 32 := 48#32
  let v231 : BitVec 32 := Scalar.addi v230 c48_i32_98
  let v232 : Index := Scalar.indexCast v231
  ![v232.toNat]

def k0_chk20 (v240 : IVec S16 32) : Prop :=
  (∀ a x, ((![v240] : Fin 1 → IVec S16 32) a x).toNat < S1088.size a)
theorem k0_idx20_inb : ∀ (v240 : IVec S16 32) (k0_hw20 : k0_chk20 v240), ∀ a x, ((![v240] : Fin 1 → IVec S16 32) a x).toNat < S1088.size a := fun v240 k0_hw20 => k0_hw20
def k0_off23 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c320_i32 : BitVec 32 := 320#32
  let v241 : BitVec 32 := Scalar.addi v20 c320_i32
  let c0_i32_102 : BitVec 32 := 0#32
  let v242 : BitVec 32 := Scalar.addi v241 c0_i32_102
  let v243 : Index := Scalar.indexCast v242
  ![v243.toNat]

def k0_chk21 (v251 : IVec S16 32) : Prop :=
  (∀ a x, ((![v251] : Fin 1 → IVec S16 32) a x).toNat < S1088.size a)
theorem k0_idx21_inb : ∀ (v251 : IVec S16 32) (k0_hw21 : k0_chk21 v251), ∀ a x, ((![v251] : Fin 1 → IVec S16 32) a x).toNat < S1088.size a := fun v251 k0_hw21 => k0_hw21
def k0_off24 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c320_i32_105 : BitVec 32 := 320#32
  let v252 : BitVec 32 := Scalar.addi v20 c320_i32_105
  let c16_i32_106 : BitVec 32 := 16#32
  let v253 : BitVec 32 := Scalar.addi v252 c16_i32_106
  let v254 : Index := Scalar.indexCast v253
  ![v254.toNat]

def k0_chk22 (v262 : IVec S16 32) : Prop :=
  (∀ a x, ((![v262] : Fin 1 → IVec S16 32) a x).toNat < S1088.size a)
theorem k0_idx22_inb : ∀ (v262 : IVec S16 32) (k0_hw22 : k0_chk22 v262), ∀ a x, ((![v262] : Fin 1 → IVec S16 32) a x).toNat < S1088.size a := fun v262 k0_hw22 => k0_hw22
def k0_off25 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c320_i32_110 : BitVec 32 := 320#32
  let v263 : BitVec 32 := Scalar.addi v20 c320_i32_110
  let c32_i32_111 : BitVec 32 := 32#32
  let v264 : BitVec 32 := Scalar.addi v263 c32_i32_111
  let v265 : Index := Scalar.indexCast v264
  ![v265.toNat]

def k0_chk23 (v273 : IVec S16 32) : Prop :=
  (∀ a x, ((![v273] : Fin 1 → IVec S16 32) a x).toNat < S1088.size a)
theorem k0_idx23_inb : ∀ (v273 : IVec S16 32) (k0_hw23 : k0_chk23 v273), ∀ a x, ((![v273] : Fin 1 → IVec S16 32) a x).toNat < S1088.size a := fun v273 k0_hw23 => k0_hw23
def k0_off26 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c320_i32_115 : BitVec 32 := 320#32
  let v274 : BitVec 32 := Scalar.addi v20 c320_i32_115
  let c48_i32_116 : BitVec 32 := 48#32
  let v275 : BitVec 32 := Scalar.addi v274 c48_i32_116
  let v276 : Index := Scalar.indexCast v275
  ![v276.toNat]

def k0_chk24 (v284 : IVec S16 32) : Prop :=
  (∀ a x, ((![v284] : Fin 1 → IVec S16 32) a x).toNat < S1088.size a)
theorem k0_idx24_inb : ∀ (v284 : IVec S16 32) (k0_hw24 : k0_chk24 v284), ∀ a x, ((![v284] : Fin 1 → IVec S16 32) a x).toNat < S1088.size a := fun v284 k0_hw24 => k0_hw24
def k0_off27 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c384_i32 : BitVec 32 := 384#32
  let v285 : BitVec 32 := Scalar.addi v20 c384_i32
  let c0_i32_120 : BitVec 32 := 0#32
  let v286 : BitVec 32 := Scalar.addi v285 c0_i32_120
  let v287 : Index := Scalar.indexCast v286
  ![v287.toNat]

def k0_chk25 (v295 : IVec S16 32) : Prop :=
  (∀ a x, ((![v295] : Fin 1 → IVec S16 32) a x).toNat < S1088.size a)
theorem k0_idx25_inb : ∀ (v295 : IVec S16 32) (k0_hw25 : k0_chk25 v295), ∀ a x, ((![v295] : Fin 1 → IVec S16 32) a x).toNat < S1088.size a := fun v295 k0_hw25 => k0_hw25
def k0_off28 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c384_i32_123 : BitVec 32 := 384#32
  let v296 : BitVec 32 := Scalar.addi v20 c384_i32_123
  let c16_i32_124 : BitVec 32 := 16#32
  let v297 : BitVec 32 := Scalar.addi v296 c16_i32_124
  let v298 : Index := Scalar.indexCast v297
  ![v298.toNat]

def k0_chk26 (v306 : IVec S16 32) : Prop :=
  (∀ a x, ((![v306] : Fin 1 → IVec S16 32) a x).toNat < S1088.size a)
theorem k0_idx26_inb : ∀ (v306 : IVec S16 32) (k0_hw26 : k0_chk26 v306), ∀ a x, ((![v306] : Fin 1 → IVec S16 32) a x).toNat < S1088.size a := fun v306 k0_hw26 => k0_hw26
def k0_off29 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c384_i32_128 : BitVec 32 := 384#32
  let v307 : BitVec 32 := Scalar.addi v20 c384_i32_128
  let c32_i32_129 : BitVec 32 := 32#32
  let v308 : BitVec 32 := Scalar.addi v307 c32_i32_129
  let v309 : Index := Scalar.indexCast v308
  ![v309.toNat]

def k0_chk27 (v317 : IVec S16 32) : Prop :=
  (∀ a x, ((![v317] : Fin 1 → IVec S16 32) a x).toNat < S1088.size a)
theorem k0_idx27_inb : ∀ (v317 : IVec S16 32) (k0_hw27 : k0_chk27 v317), ∀ a x, ((![v317] : Fin 1 → IVec S16 32) a x).toNat < S1088.size a := fun v317 k0_hw27 => k0_hw27
def k0_off30 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c384_i32_133 : BitVec 32 := 384#32
  let v318 : BitVec 32 := Scalar.addi v20 c384_i32_133
  let c48_i32_134 : BitVec 32 := 48#32
  let v319 : BitVec 32 := Scalar.addi v318 c48_i32_134
  let v320 : Index := Scalar.indexCast v319
  ![v320.toNat]

def k0_chk28 (v328 : IVec S16 32) : Prop :=
  (∀ a x, ((![v328] : Fin 1 → IVec S16 32) a x).toNat < S1088.size a)
theorem k0_idx28_inb : ∀ (v328 : IVec S16 32) (k0_hw28 : k0_chk28 v328), ∀ a x, ((![v328] : Fin 1 → IVec S16 32) a x).toNat < S1088.size a := fun v328 k0_hw28 => k0_hw28
def k0_off31 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c448_i32 : BitVec 32 := 448#32
  let v329 : BitVec 32 := Scalar.addi v20 c448_i32
  let c0_i32_138 : BitVec 32 := 0#32
  let v330 : BitVec 32 := Scalar.addi v329 c0_i32_138
  let v331 : Index := Scalar.indexCast v330
  ![v331.toNat]

def k0_chk29 (v339 : IVec S16 32) : Prop :=
  (∀ a x, ((![v339] : Fin 1 → IVec S16 32) a x).toNat < S1088.size a)
theorem k0_idx29_inb : ∀ (v339 : IVec S16 32) (k0_hw29 : k0_chk29 v339), ∀ a x, ((![v339] : Fin 1 → IVec S16 32) a x).toNat < S1088.size a := fun v339 k0_hw29 => k0_hw29
def k0_off32 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c448_i32_141 : BitVec 32 := 448#32
  let v340 : BitVec 32 := Scalar.addi v20 c448_i32_141
  let c16_i32_142 : BitVec 32 := 16#32
  let v341 : BitVec 32 := Scalar.addi v340 c16_i32_142
  let v342 : Index := Scalar.indexCast v341
  ![v342.toNat]

def k0_chk30 (v350 : IVec S16 32) : Prop :=
  (∀ a x, ((![v350] : Fin 1 → IVec S16 32) a x).toNat < S1088.size a)
theorem k0_idx30_inb : ∀ (v350 : IVec S16 32) (k0_hw30 : k0_chk30 v350), ∀ a x, ((![v350] : Fin 1 → IVec S16 32) a x).toNat < S1088.size a := fun v350 k0_hw30 => k0_hw30
def k0_off33 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c448_i32_146 : BitVec 32 := 448#32
  let v351 : BitVec 32 := Scalar.addi v20 c448_i32_146
  let c32_i32_147 : BitVec 32 := 32#32
  let v352 : BitVec 32 := Scalar.addi v351 c32_i32_147
  let v353 : Index := Scalar.indexCast v352
  ![v353.toNat]

def k0_chk31 (v361 : IVec S16 32) : Prop :=
  (∀ a x, ((![v361] : Fin 1 → IVec S16 32) a x).toNat < S1088.size a)
theorem k0_idx31_inb : ∀ (v361 : IVec S16 32) (k0_hw31 : k0_chk31 v361), ∀ a x, ((![v361] : Fin 1 → IVec S16 32) a x).toNat < S1088.size a := fun v361 k0_hw31 => k0_hw31
def k0_off34 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c448_i32_151 : BitVec 32 := 448#32
  let v362 : BitVec 32 := Scalar.addi v20 c448_i32_151
  let c48_i32_152 : BitVec 32 := 48#32
  let v363 : BitVec 32 := Scalar.addi v362 c48_i32_152
  let v364 : Index := Scalar.indexCast v363
  ![v364.toNat]

def k0_chk32 (v372 : IVec S16 32) : Prop :=
  (∀ a x, ((![v372] : Fin 1 → IVec S16 32) a x).toNat < S1088.size a)
theorem k0_idx32_inb : ∀ (v372 : IVec S16 32) (k0_hw32 : k0_chk32 v372), ∀ a x, ((![v372] : Fin 1 → IVec S16 32) a x).toNat < S1088.size a := fun v372 k0_hw32 => k0_hw32
def k0_off35 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c512_i32_156 : BitVec 32 := 512#32
  let v373 : BitVec 32 := Scalar.addi v20 c512_i32_156
  let c0_i32_157 : BitVec 32 := 0#32
  let v374 : BitVec 32 := Scalar.addi v373 c0_i32_157
  let v375 : Index := Scalar.indexCast v374
  ![v375.toNat]

def k0_chk33 (v383 : IVec S16 32) : Prop :=
  (∀ a x, ((![v383] : Fin 1 → IVec S16 32) a x).toNat < S1088.size a)
theorem k0_idx33_inb : ∀ (v383 : IVec S16 32) (k0_hw33 : k0_chk33 v383), ∀ a x, ((![v383] : Fin 1 → IVec S16 32) a x).toNat < S1088.size a := fun v383 k0_hw33 => k0_hw33
def k0_off36 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c512_i32_160 : BitVec 32 := 512#32
  let v384 : BitVec 32 := Scalar.addi v20 c512_i32_160
  let c16_i32_161 : BitVec 32 := 16#32
  let v385 : BitVec 32 := Scalar.addi v384 c16_i32_161
  let v386 : Index := Scalar.indexCast v385
  ![v386.toNat]

def k0_chk34 (v394 : IVec S16 32) : Prop :=
  (∀ a x, ((![v394] : Fin 1 → IVec S16 32) a x).toNat < S1088.size a)
theorem k0_idx34_inb : ∀ (v394 : IVec S16 32) (k0_hw34 : k0_chk34 v394), ∀ a x, ((![v394] : Fin 1 → IVec S16 32) a x).toNat < S1088.size a := fun v394 k0_hw34 => k0_hw34
def k0_off37 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c512_i32_165 : BitVec 32 := 512#32
  let v395 : BitVec 32 := Scalar.addi v20 c512_i32_165
  let c32_i32_166 : BitVec 32 := 32#32
  let v396 : BitVec 32 := Scalar.addi v395 c32_i32_166
  let v397 : Index := Scalar.indexCast v396
  ![v397.toNat]

def k0_chk35 (v405 : IVec S16 32) : Prop :=
  (∀ a x, ((![v405] : Fin 1 → IVec S16 32) a x).toNat < S1088.size a)
theorem k0_idx35_inb : ∀ (v405 : IVec S16 32) (k0_hw35 : k0_chk35 v405), ∀ a x, ((![v405] : Fin 1 → IVec S16 32) a x).toNat < S1088.size a := fun v405 k0_hw35 => k0_hw35
def k0_off38 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c512_i32_170 : BitVec 32 := 512#32
  let v406 : BitVec 32 := Scalar.addi v20 c512_i32_170
  let c48_i32_171 : BitVec 32 := 48#32
  let v407 : BitVec 32 := Scalar.addi v406 c48_i32_171
  let v408 : Index := Scalar.indexCast v407
  ![v408.toNat]

def k0_chk36 (v416 : IVec S16 32) : Prop :=
  (∀ a x, ((![v416] : Fin 1 → IVec S16 32) a x).toNat < S1088.size a)
theorem k0_idx36_inb : ∀ (v416 : IVec S16 32) (k0_hw36 : k0_chk36 v416), ∀ a x, ((![v416] : Fin 1 → IVec S16 32) a x).toNat < S1088.size a := fun v416 k0_hw36 => k0_hw36
def k0_off39 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c576_i32 : BitVec 32 := 576#32
  let v417 : BitVec 32 := Scalar.addi v20 c576_i32
  let c0_i32_175 : BitVec 32 := 0#32
  let v418 : BitVec 32 := Scalar.addi v417 c0_i32_175
  let v419 : Index := Scalar.indexCast v418
  ![v419.toNat]

def k0_chk37 (v427 : IVec S16 32) : Prop :=
  (∀ a x, ((![v427] : Fin 1 → IVec S16 32) a x).toNat < S1088.size a)
theorem k0_idx37_inb : ∀ (v427 : IVec S16 32) (k0_hw37 : k0_chk37 v427), ∀ a x, ((![v427] : Fin 1 → IVec S16 32) a x).toNat < S1088.size a := fun v427 k0_hw37 => k0_hw37
def k0_off40 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c576_i32_178 : BitVec 32 := 576#32
  let v428 : BitVec 32 := Scalar.addi v20 c576_i32_178
  let c16_i32_179 : BitVec 32 := 16#32
  let v429 : BitVec 32 := Scalar.addi v428 c16_i32_179
  let v430 : Index := Scalar.indexCast v429
  ![v430.toNat]

def k0_chk38 (v438 : IVec S16 32) : Prop :=
  (∀ a x, ((![v438] : Fin 1 → IVec S16 32) a x).toNat < S1088.size a)
theorem k0_idx38_inb : ∀ (v438 : IVec S16 32) (k0_hw38 : k0_chk38 v438), ∀ a x, ((![v438] : Fin 1 → IVec S16 32) a x).toNat < S1088.size a := fun v438 k0_hw38 => k0_hw38
def k0_off41 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c576_i32_183 : BitVec 32 := 576#32
  let v439 : BitVec 32 := Scalar.addi v20 c576_i32_183
  let c32_i32_184 : BitVec 32 := 32#32
  let v440 : BitVec 32 := Scalar.addi v439 c32_i32_184
  let v441 : Index := Scalar.indexCast v440
  ![v441.toNat]

def k0_chk39 (v449 : IVec S16 32) : Prop :=
  (∀ a x, ((![v449] : Fin 1 → IVec S16 32) a x).toNat < S1088.size a)
theorem k0_idx39_inb : ∀ (v449 : IVec S16 32) (k0_hw39 : k0_chk39 v449), ∀ a x, ((![v449] : Fin 1 → IVec S16 32) a x).toNat < S1088.size a := fun v449 k0_hw39 => k0_hw39
def k0_off42 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c576_i32_188 : BitVec 32 := 576#32
  let v450 : BitVec 32 := Scalar.addi v20 c576_i32_188
  let c48_i32_189 : BitVec 32 := 48#32
  let v451 : BitVec 32 := Scalar.addi v450 c48_i32_189
  let v452 : Index := Scalar.indexCast v451
  ![v452.toNat]

def k0_chk40 (v460 : IVec S16 32) : Prop :=
  (∀ a x, ((![v460] : Fin 1 → IVec S16 32) a x).toNat < S1088.size a)
theorem k0_idx40_inb : ∀ (v460 : IVec S16 32) (k0_hw40 : k0_chk40 v460), ∀ a x, ((![v460] : Fin 1 → IVec S16 32) a x).toNat < S1088.size a := fun v460 k0_hw40 => k0_hw40
def k0_off43 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c640_i32 : BitVec 32 := 640#32
  let v461 : BitVec 32 := Scalar.addi v20 c640_i32
  let c0_i32_193 : BitVec 32 := 0#32
  let v462 : BitVec 32 := Scalar.addi v461 c0_i32_193
  let v463 : Index := Scalar.indexCast v462
  ![v463.toNat]

def k0_chk41 (v471 : IVec S16 32) : Prop :=
  (∀ a x, ((![v471] : Fin 1 → IVec S16 32) a x).toNat < S1088.size a)
theorem k0_idx41_inb : ∀ (v471 : IVec S16 32) (k0_hw41 : k0_chk41 v471), ∀ a x, ((![v471] : Fin 1 → IVec S16 32) a x).toNat < S1088.size a := fun v471 k0_hw41 => k0_hw41
def k0_off44 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c640_i32_196 : BitVec 32 := 640#32
  let v472 : BitVec 32 := Scalar.addi v20 c640_i32_196
  let c16_i32_197 : BitVec 32 := 16#32
  let v473 : BitVec 32 := Scalar.addi v472 c16_i32_197
  let v474 : Index := Scalar.indexCast v473
  ![v474.toNat]

def k0_chk42 (v482 : IVec S16 32) : Prop :=
  (∀ a x, ((![v482] : Fin 1 → IVec S16 32) a x).toNat < S1088.size a)
theorem k0_idx42_inb : ∀ (v482 : IVec S16 32) (k0_hw42 : k0_chk42 v482), ∀ a x, ((![v482] : Fin 1 → IVec S16 32) a x).toNat < S1088.size a := fun v482 k0_hw42 => k0_hw42
def k0_off45 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c640_i32_201 : BitVec 32 := 640#32
  let v483 : BitVec 32 := Scalar.addi v20 c640_i32_201
  let c32_i32_202 : BitVec 32 := 32#32
  let v484 : BitVec 32 := Scalar.addi v483 c32_i32_202
  let v485 : Index := Scalar.indexCast v484
  ![v485.toNat]

def k0_chk43 (v493 : IVec S16 32) : Prop :=
  (∀ a x, ((![v493] : Fin 1 → IVec S16 32) a x).toNat < S1088.size a)
theorem k0_idx43_inb : ∀ (v493 : IVec S16 32) (k0_hw43 : k0_chk43 v493), ∀ a x, ((![v493] : Fin 1 → IVec S16 32) a x).toNat < S1088.size a := fun v493 k0_hw43 => k0_hw43
def k0_off46 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c640_i32_206 : BitVec 32 := 640#32
  let v494 : BitVec 32 := Scalar.addi v20 c640_i32_206
  let c48_i32_207 : BitVec 32 := 48#32
  let v495 : BitVec 32 := Scalar.addi v494 c48_i32_207
  let v496 : Index := Scalar.indexCast v495
  ![v496.toNat]

def k0_chk44 (v504 : IVec S16 32) : Prop :=
  (∀ a x, ((![v504] : Fin 1 → IVec S16 32) a x).toNat < S1088.size a)
theorem k0_idx44_inb : ∀ (v504 : IVec S16 32) (k0_hw44 : k0_chk44 v504), ∀ a x, ((![v504] : Fin 1 → IVec S16 32) a x).toNat < S1088.size a := fun v504 k0_hw44 => k0_hw44
def k0_off47 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c704_i32 : BitVec 32 := 704#32
  let v505 : BitVec 32 := Scalar.addi v20 c704_i32
  let c0_i32_211 : BitVec 32 := 0#32
  let v506 : BitVec 32 := Scalar.addi v505 c0_i32_211
  let v507 : Index := Scalar.indexCast v506
  ![v507.toNat]

def k0_chk45 (v515 : IVec S16 32) : Prop :=
  (∀ a x, ((![v515] : Fin 1 → IVec S16 32) a x).toNat < S1088.size a)
theorem k0_idx45_inb : ∀ (v515 : IVec S16 32) (k0_hw45 : k0_chk45 v515), ∀ a x, ((![v515] : Fin 1 → IVec S16 32) a x).toNat < S1088.size a := fun v515 k0_hw45 => k0_hw45
def k0_off48 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c704_i32_214 : BitVec 32 := 704#32
  let v516 : BitVec 32 := Scalar.addi v20 c704_i32_214
  let c16_i32_215 : BitVec 32 := 16#32
  let v517 : BitVec 32 := Scalar.addi v516 c16_i32_215
  let v518 : Index := Scalar.indexCast v517
  ![v518.toNat]

def k0_chk46 (v526 : IVec S16 32) : Prop :=
  (∀ a x, ((![v526] : Fin 1 → IVec S16 32) a x).toNat < S1088.size a)
theorem k0_idx46_inb : ∀ (v526 : IVec S16 32) (k0_hw46 : k0_chk46 v526), ∀ a x, ((![v526] : Fin 1 → IVec S16 32) a x).toNat < S1088.size a := fun v526 k0_hw46 => k0_hw46
def k0_off49 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c704_i32_219 : BitVec 32 := 704#32
  let v527 : BitVec 32 := Scalar.addi v20 c704_i32_219
  let c32_i32_220 : BitVec 32 := 32#32
  let v528 : BitVec 32 := Scalar.addi v527 c32_i32_220
  let v529 : Index := Scalar.indexCast v528
  ![v529.toNat]

def k0_chk47 (v537 : IVec S16 32) : Prop :=
  (∀ a x, ((![v537] : Fin 1 → IVec S16 32) a x).toNat < S1088.size a)
theorem k0_idx47_inb : ∀ (v537 : IVec S16 32) (k0_hw47 : k0_chk47 v537), ∀ a x, ((![v537] : Fin 1 → IVec S16 32) a x).toNat < S1088.size a := fun v537 k0_hw47 => k0_hw47
def k0_off50 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c704_i32_224 : BitVec 32 := 704#32
  let v538 : BitVec 32 := Scalar.addi v20 c704_i32_224
  let c48_i32_225 : BitVec 32 := 48#32
  let v539 : BitVec 32 := Scalar.addi v538 c48_i32_225
  let v540 : Index := Scalar.indexCast v539
  ![v540.toNat]

def k0_chk48 (v548 : IVec S16 32) : Prop :=
  (∀ a x, ((![v548] : Fin 1 → IVec S16 32) a x).toNat < S1088.size a)
theorem k0_idx48_inb : ∀ (v548 : IVec S16 32) (k0_hw48 : k0_chk48 v548), ∀ a x, ((![v548] : Fin 1 → IVec S16 32) a x).toNat < S1088.size a := fun v548 k0_hw48 => k0_hw48
def k0_off51 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c768_i32 : BitVec 32 := 768#32
  let v549 : BitVec 32 := Scalar.addi v20 c768_i32
  let c0_i32_229 : BitVec 32 := 0#32
  let v550 : BitVec 32 := Scalar.addi v549 c0_i32_229
  let v551 : Index := Scalar.indexCast v550
  ![v551.toNat]

def k0_chk49 (v559 : IVec S16 32) : Prop :=
  (∀ a x, ((![v559] : Fin 1 → IVec S16 32) a x).toNat < S1088.size a)
theorem k0_idx49_inb : ∀ (v559 : IVec S16 32) (k0_hw49 : k0_chk49 v559), ∀ a x, ((![v559] : Fin 1 → IVec S16 32) a x).toNat < S1088.size a := fun v559 k0_hw49 => k0_hw49
def k0_off52 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c768_i32_232 : BitVec 32 := 768#32
  let v560 : BitVec 32 := Scalar.addi v20 c768_i32_232
  let c16_i32_233 : BitVec 32 := 16#32
  let v561 : BitVec 32 := Scalar.addi v560 c16_i32_233
  let v562 : Index := Scalar.indexCast v561
  ![v562.toNat]

def k0_chk50 (v570 : IVec S16 32) : Prop :=
  (∀ a x, ((![v570] : Fin 1 → IVec S16 32) a x).toNat < S1088.size a)
theorem k0_idx50_inb : ∀ (v570 : IVec S16 32) (k0_hw50 : k0_chk50 v570), ∀ a x, ((![v570] : Fin 1 → IVec S16 32) a x).toNat < S1088.size a := fun v570 k0_hw50 => k0_hw50
def k0_off53 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c768_i32_237 : BitVec 32 := 768#32
  let v571 : BitVec 32 := Scalar.addi v20 c768_i32_237
  let c32_i32_238 : BitVec 32 := 32#32
  let v572 : BitVec 32 := Scalar.addi v571 c32_i32_238
  let v573 : Index := Scalar.indexCast v572
  ![v573.toNat]

def k0_chk51 (v581 : IVec S16 32) : Prop :=
  (∀ a x, ((![v581] : Fin 1 → IVec S16 32) a x).toNat < S1088.size a)
theorem k0_idx51_inb : ∀ (v581 : IVec S16 32) (k0_hw51 : k0_chk51 v581), ∀ a x, ((![v581] : Fin 1 → IVec S16 32) a x).toNat < S1088.size a := fun v581 k0_hw51 => k0_hw51
def k0_off54 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c768_i32_242 : BitVec 32 := 768#32
  let v582 : BitVec 32 := Scalar.addi v20 c768_i32_242
  let c48_i32_243 : BitVec 32 := 48#32
  let v583 : BitVec 32 := Scalar.addi v582 c48_i32_243
  let v584 : Index := Scalar.indexCast v583
  ![v584.toNat]

def k0_chk52 (v592 : IVec S16 32) : Prop :=
  (∀ a x, ((![v592] : Fin 1 → IVec S16 32) a x).toNat < S1088.size a)
theorem k0_idx52_inb : ∀ (v592 : IVec S16 32) (k0_hw52 : k0_chk52 v592), ∀ a x, ((![v592] : Fin 1 → IVec S16 32) a x).toNat < S1088.size a := fun v592 k0_hw52 => k0_hw52
def k0_off55 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c832_i32 : BitVec 32 := 832#32
  let v593 : BitVec 32 := Scalar.addi v20 c832_i32
  let c0_i32_247 : BitVec 32 := 0#32
  let v594 : BitVec 32 := Scalar.addi v593 c0_i32_247
  let v595 : Index := Scalar.indexCast v594
  ![v595.toNat]

def k0_chk53 (v603 : IVec S16 32) : Prop :=
  (∀ a x, ((![v603] : Fin 1 → IVec S16 32) a x).toNat < S1088.size a)
theorem k0_idx53_inb : ∀ (v603 : IVec S16 32) (k0_hw53 : k0_chk53 v603), ∀ a x, ((![v603] : Fin 1 → IVec S16 32) a x).toNat < S1088.size a := fun v603 k0_hw53 => k0_hw53
def k0_off56 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c832_i32_250 : BitVec 32 := 832#32
  let v604 : BitVec 32 := Scalar.addi v20 c832_i32_250
  let c16_i32_251 : BitVec 32 := 16#32
  let v605 : BitVec 32 := Scalar.addi v604 c16_i32_251
  let v606 : Index := Scalar.indexCast v605
  ![v606.toNat]

def k0_chk54 (v614 : IVec S16 32) : Prop :=
  (∀ a x, ((![v614] : Fin 1 → IVec S16 32) a x).toNat < S1088.size a)
theorem k0_idx54_inb : ∀ (v614 : IVec S16 32) (k0_hw54 : k0_chk54 v614), ∀ a x, ((![v614] : Fin 1 → IVec S16 32) a x).toNat < S1088.size a := fun v614 k0_hw54 => k0_hw54
def k0_off57 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c832_i32_255 : BitVec 32 := 832#32
  let v615 : BitVec 32 := Scalar.addi v20 c832_i32_255
  let c32_i32_256 : BitVec 32 := 32#32
  let v616 : BitVec 32 := Scalar.addi v615 c32_i32_256
  let v617 : Index := Scalar.indexCast v616
  ![v617.toNat]

def k0_chk55 (v625 : IVec S16 32) : Prop :=
  (∀ a x, ((![v625] : Fin 1 → IVec S16 32) a x).toNat < S1088.size a)
theorem k0_idx55_inb : ∀ (v625 : IVec S16 32) (k0_hw55 : k0_chk55 v625), ∀ a x, ((![v625] : Fin 1 → IVec S16 32) a x).toNat < S1088.size a := fun v625 k0_hw55 => k0_hw55
def k0_off58 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c832_i32_260 : BitVec 32 := 832#32
  let v626 : BitVec 32 := Scalar.addi v20 c832_i32_260
  let c48_i32_261 : BitVec 32 := 48#32
  let v627 : BitVec 32 := Scalar.addi v626 c48_i32_261
  let v628 : Index := Scalar.indexCast v627
  ![v628.toNat]

def k0_chk56 (v636 : IVec S16 32) : Prop :=
  (∀ a x, ((![v636] : Fin 1 → IVec S16 32) a x).toNat < S1088.size a)
theorem k0_idx56_inb : ∀ (v636 : IVec S16 32) (k0_hw56 : k0_chk56 v636), ∀ a x, ((![v636] : Fin 1 → IVec S16 32) a x).toNat < S1088.size a := fun v636 k0_hw56 => k0_hw56
def k0_off59 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c896_i32 : BitVec 32 := 896#32
  let v637 : BitVec 32 := Scalar.addi v20 c896_i32
  let c0_i32_265 : BitVec 32 := 0#32
  let v638 : BitVec 32 := Scalar.addi v637 c0_i32_265
  let v639 : Index := Scalar.indexCast v638
  ![v639.toNat]

def k0_chk57 (v647 : IVec S16 32) : Prop :=
  (∀ a x, ((![v647] : Fin 1 → IVec S16 32) a x).toNat < S1088.size a)
theorem k0_idx57_inb : ∀ (v647 : IVec S16 32) (k0_hw57 : k0_chk57 v647), ∀ a x, ((![v647] : Fin 1 → IVec S16 32) a x).toNat < S1088.size a := fun v647 k0_hw57 => k0_hw57
def k0_off60 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c896_i32_268 : BitVec 32 := 896#32
  let v648 : BitVec 32 := Scalar.addi v20 c896_i32_268
  let c16_i32_269 : BitVec 32 := 16#32
  let v649 : BitVec 32 := Scalar.addi v648 c16_i32_269
  let v650 : Index := Scalar.indexCast v649
  ![v650.toNat]

def k0_chk58 (v658 : IVec S16 32) : Prop :=
  (∀ a x, ((![v658] : Fin 1 → IVec S16 32) a x).toNat < S1088.size a)
theorem k0_idx58_inb : ∀ (v658 : IVec S16 32) (k0_hw58 : k0_chk58 v658), ∀ a x, ((![v658] : Fin 1 → IVec S16 32) a x).toNat < S1088.size a := fun v658 k0_hw58 => k0_hw58
def k0_off61 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c896_i32_273 : BitVec 32 := 896#32
  let v659 : BitVec 32 := Scalar.addi v20 c896_i32_273
  let c32_i32_274 : BitVec 32 := 32#32
  let v660 : BitVec 32 := Scalar.addi v659 c32_i32_274
  let v661 : Index := Scalar.indexCast v660
  ![v661.toNat]

def k0_chk59 (v669 : IVec S16 32) : Prop :=
  (∀ a x, ((![v669] : Fin 1 → IVec S16 32) a x).toNat < S1088.size a)
theorem k0_idx59_inb : ∀ (v669 : IVec S16 32) (k0_hw59 : k0_chk59 v669), ∀ a x, ((![v669] : Fin 1 → IVec S16 32) a x).toNat < S1088.size a := fun v669 k0_hw59 => k0_hw59
def k0_off62 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c896_i32_278 : BitVec 32 := 896#32
  let v670 : BitVec 32 := Scalar.addi v20 c896_i32_278
  let c48_i32_279 : BitVec 32 := 48#32
  let v671 : BitVec 32 := Scalar.addi v670 c48_i32_279
  let v672 : Index := Scalar.indexCast v671
  ![v672.toNat]

def k0_chk60 (v680 : IVec S16 32) : Prop :=
  (∀ a x, ((![v680] : Fin 1 → IVec S16 32) a x).toNat < S1088.size a)
theorem k0_idx60_inb : ∀ (v680 : IVec S16 32) (k0_hw60 : k0_chk60 v680), ∀ a x, ((![v680] : Fin 1 → IVec S16 32) a x).toNat < S1088.size a := fun v680 k0_hw60 => k0_hw60
def k0_off63 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c960_i32 : BitVec 32 := 960#32
  let v681 : BitVec 32 := Scalar.addi v20 c960_i32
  let c0_i32_283 : BitVec 32 := 0#32
  let v682 : BitVec 32 := Scalar.addi v681 c0_i32_283
  let v683 : Index := Scalar.indexCast v682
  ![v683.toNat]

def k0_chk61 (v691 : IVec S16 32) : Prop :=
  (∀ a x, ((![v691] : Fin 1 → IVec S16 32) a x).toNat < S1088.size a)
theorem k0_idx61_inb : ∀ (v691 : IVec S16 32) (k0_hw61 : k0_chk61 v691), ∀ a x, ((![v691] : Fin 1 → IVec S16 32) a x).toNat < S1088.size a := fun v691 k0_hw61 => k0_hw61
def k0_off64 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c960_i32_286 : BitVec 32 := 960#32
  let v692 : BitVec 32 := Scalar.addi v20 c960_i32_286
  let c16_i32_287 : BitVec 32 := 16#32
  let v693 : BitVec 32 := Scalar.addi v692 c16_i32_287
  let v694 : Index := Scalar.indexCast v693
  ![v694.toNat]

def k0_chk62 (v702 : IVec S16 32) : Prop :=
  (∀ a x, ((![v702] : Fin 1 → IVec S16 32) a x).toNat < S1088.size a)
theorem k0_idx62_inb : ∀ (v702 : IVec S16 32) (k0_hw62 : k0_chk62 v702), ∀ a x, ((![v702] : Fin 1 → IVec S16 32) a x).toNat < S1088.size a := fun v702 k0_hw62 => k0_hw62
def k0_off65 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c960_i32_291 : BitVec 32 := 960#32
  let v703 : BitVec 32 := Scalar.addi v20 c960_i32_291
  let c32_i32_292 : BitVec 32 := 32#32
  let v704 : BitVec 32 := Scalar.addi v703 c32_i32_292
  let v705 : Index := Scalar.indexCast v704
  ![v705.toNat]

def k0_chk63 (v713 : IVec S16 32) : Prop :=
  (∀ a x, ((![v713] : Fin 1 → IVec S16 32) a x).toNat < S1088.size a)
theorem k0_idx63_inb : ∀ (v713 : IVec S16 32) (k0_hw63 : k0_chk63 v713), ∀ a x, ((![v713] : Fin 1 → IVec S16 32) a x).toNat < S1088.size a := fun v713 k0_hw63 => k0_hw63
def k0_off66 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32_7 : BitVec 32 := 16#32
  let v19 : BitVec 32 := Scalar.muli arg9 c16_i32_7
  let c64_i32_8 : BitVec 32 := 64#32
  let v20 : BitVec 32 := Scalar.muli v19 c64_i32_8
  let c960_i32_296 : BitVec 32 := 960#32
  let v714 : BitVec 32 := Scalar.addi v20 c960_i32_296
  let c48_i32_297 : BitVec 32 := 48#32
  let v715 : BitVec 32 := Scalar.addi v714 c48_i32_297
  let v716 : Index := Scalar.indexCast v715
  ![v716.toNat]

def k0_chk64 (v724 : IVec S16 32) : Prop :=
  (∀ a x, ((![v724] : Fin 1 → IVec S16 32) a x).toNat < S1088.size a)
theorem k0_idx64_inb : ∀ (v724 : IVec S16 32) (k0_hw64 : k0_chk64 v724), ∀ a x, ((![v724] : Fin 1 → IVec S16 32) a x).toNat < S1088.size a := fun v724 k0_hw64 => k0_hw64

def k0_chk65 (v1048 : IVec S16 32) : Prop :=
  (∀ a x, ((![v1048] : Fin 1 → IVec S16 32) a x).toNat < S1088.size a)
theorem k0_idx65_inb : ∀ (v1048 : IVec S16 32) (k0_hw65 : k0_chk65 v1048), ∀ a x, ((![v1048] : Fin 1 → IVec S16 32) a x).toNat < S1088.size a := fun v1048 k0_hw65 => k0_hw65

def k0_chk66 (v1372 : IVec S16 32) : Prop :=
  (∀ a x, ((![v1372] : Fin 1 → IVec S16 32) a x).toNat < S1088.size a)
theorem k0_idx66_inb : ∀ (v1372 : IVec S16 32) (k0_hw66 : k0_chk66 v1372), ∀ a x, ((![v1372] : Fin 1 → IVec S16 32) a x).toNat < S1088.size a := fun v1372 k0_hw66 => k0_hw66

def k0_chk67 (v1696 : IVec S16 32) : Prop :=
  (∀ a x, ((![v1696] : Fin 1 → IVec S16 32) a x).toNat < S1088.size a)
theorem k0_idx67_inb : ∀ (v1696 : IVec S16 32) (k0_hw67 : k0_chk67 v1696), ∀ a x, ((![v1696] : Fin 1 → IVec S16 32) a x).toNat < S1088.size a := fun v1696 k0_hw67 => k0_hw67

def k0_chk68 (v2020 : IVec S16 32) : Prop :=
  (∀ a x, ((![v2020] : Fin 1 → IVec S16 32) a x).toNat < S1088.size a)
theorem k0_idx68_inb : ∀ (v2020 : IVec S16 32) (k0_hw68 : k0_chk68 v2020), ∀ a x, ((![v2020] : Fin 1 → IVec S16 32) a x).toNat < S1088.size a := fun v2020 k0_hw68 => k0_hw68

def k0_chk69 (v2344 : IVec S16 32) : Prop :=
  (∀ a x, ((![v2344] : Fin 1 → IVec S16 32) a x).toNat < S1088.size a)
theorem k0_idx69_inb : ∀ (v2344 : IVec S16 32) (k0_hw69 : k0_chk69 v2344), ∀ a x, ((![v2344] : Fin 1 → IVec S16 32) a x).toNat < S1088.size a := fun v2344 k0_hw69 => k0_hw69

def k0_chk70 (v2668 : IVec S16 32) : Prop :=
  (∀ a x, ((![v2668] : Fin 1 → IVec S16 32) a x).toNat < S1088.size a)
theorem k0_idx70_inb : ∀ (v2668 : IVec S16 32) (k0_hw70 : k0_chk70 v2668), ∀ a x, ((![v2668] : Fin 1 → IVec S16 32) a x).toNat < S1088.size a := fun v2668 k0_hw70 => k0_hw70

def k0_chk71 (v2992 : IVec S16 32) : Prop :=
  (∀ a x, ((![v2992] : Fin 1 → IVec S16 32) a x).toNat < S1088.size a)
theorem k0_idx71_inb : ∀ (v2992 : IVec S16 32) (k0_hw71 : k0_chk71 v2992), ∀ a x, ((![v2992] : Fin 1 → IVec S16 32) a x).toNat < S1088.size a := fun v2992 k0_hw71 => k0_hw71

def k0_chk72 (v3316 : IVec S16 32) : Prop :=
  (∀ a x, ((![v3316] : Fin 1 → IVec S16 32) a x).toNat < S1088.size a)
theorem k0_idx72_inb : ∀ (v3316 : IVec S16 32) (k0_hw72 : k0_chk72 v3316), ∀ a x, ((![v3316] : Fin 1 → IVec S16 32) a x).toNat < S1088.size a := fun v3316 k0_hw72 => k0_hw72

def k0_chk73 (v1045 : IVec S16 32) : Prop :=
  (∀ a x, ((![v1045] : Fin 1 → IVec S16 32) a x).toNat < S64.size a)
theorem k0_idx73_inb : ∀ (v1045 : IVec S16 32) (k0_hw73 : k0_chk73 v1045), ∀ a x, ((![v1045] : Fin 1 → IVec S16 32) a x).toNat < S64.size a := fun v1045 k0_hw73 => k0_hw73

def k0_chk74 (v1369 : IVec S16 32) : Prop :=
  (∀ a x, ((![v1369] : Fin 1 → IVec S16 32) a x).toNat < S64.size a)
theorem k0_idx74_inb : ∀ (v1369 : IVec S16 32) (k0_hw74 : k0_chk74 v1369), ∀ a x, ((![v1369] : Fin 1 → IVec S16 32) a x).toNat < S64.size a := fun v1369 k0_hw74 => k0_hw74

def k0_chk75 (v1693 : IVec S16 32) : Prop :=
  (∀ a x, ((![v1693] : Fin 1 → IVec S16 32) a x).toNat < S64.size a)
theorem k0_idx75_inb : ∀ (v1693 : IVec S16 32) (k0_hw75 : k0_chk75 v1693), ∀ a x, ((![v1693] : Fin 1 → IVec S16 32) a x).toNat < S64.size a := fun v1693 k0_hw75 => k0_hw75

def k0_chk76 (v2017 : IVec S16 32) : Prop :=
  (∀ a x, ((![v2017] : Fin 1 → IVec S16 32) a x).toNat < S64.size a)
theorem k0_idx76_inb : ∀ (v2017 : IVec S16 32) (k0_hw76 : k0_chk76 v2017), ∀ a x, ((![v2017] : Fin 1 → IVec S16 32) a x).toNat < S64.size a := fun v2017 k0_hw76 => k0_hw76

def k0_chk77 (v2341 : IVec S16 32) : Prop :=
  (∀ a x, ((![v2341] : Fin 1 → IVec S16 32) a x).toNat < S64.size a)
theorem k0_idx77_inb : ∀ (v2341 : IVec S16 32) (k0_hw77 : k0_chk77 v2341), ∀ a x, ((![v2341] : Fin 1 → IVec S16 32) a x).toNat < S64.size a := fun v2341 k0_hw77 => k0_hw77

def k0_chk78 (v2665 : IVec S16 32) : Prop :=
  (∀ a x, ((![v2665] : Fin 1 → IVec S16 32) a x).toNat < S64.size a)
theorem k0_idx78_inb : ∀ (v2665 : IVec S16 32) (k0_hw78 : k0_chk78 v2665), ∀ a x, ((![v2665] : Fin 1 → IVec S16 32) a x).toNat < S64.size a := fun v2665 k0_hw78 => k0_hw78

def k0_chk79 (v2989 : IVec S16 32) : Prop :=
  (∀ a x, ((![v2989] : Fin 1 → IVec S16 32) a x).toNat < S64.size a)
theorem k0_idx79_inb : ∀ (v2989 : IVec S16 32) (k0_hw79 : k0_chk79 v2989), ∀ a x, ((![v2989] : Fin 1 → IVec S16 32) a x).toNat < S64.size a := fun v2989 k0_hw79 => k0_hw79

def k0_chk80 (v3313 : IVec S16 32) : Prop :=
  (∀ a x, ((![v3313] : Fin 1 → IVec S16 32) a x).toNat < S64.size a)
theorem k0_idx80_inb : ∀ (v3313 : IVec S16 32) (k0_hw80 : k0_chk80 v3313), ∀ a x, ((![v3313] : Fin 1 → IVec S16 32) a x).toNat < S64.size a := fun v3313 k0_hw80 => k0_hw80

def k0_chk81 (v3363 : IVec S16 32) : Prop :=
  (∀ a x, ((![v3363] : Fin 1 → IVec S16 32) a x).toNat < S32768.size a)
theorem k0_idx81_inb : ∀ (v3363 : IVec S16 32) (k0_hw81 : k0_chk81 v3363), ∀ a x, ((![v3363] : Fin 1 → IVec S16 32) a x).toNat < S32768.size a := fun v3363 k0_hw81 => k0_hw81

def k0_chk82 (v3365 : IVec S16 32) : Prop :=
  (∀ a x, ((![v3365] : Fin 1 → IVec S16 32) a x).toNat < S32768.size a)
theorem k0_idx82_inb : ∀ (v3365 : IVec S16 32) (k0_hw82 : k0_chk82 v3365), ∀ a x, ((![v3365] : Fin 1 → IVec S16 32) a x).toNat < S32768.size a := fun v3365 k0_hw82 => k0_hw82

def k0_chk83 (v3367 : IVec S16 32) : Prop :=
  (∀ a x, ((![v3367] : Fin 1 → IVec S16 32) a x).toNat < S32768.size a)
theorem k0_idx83_inb : ∀ (v3367 : IVec S16 32) (k0_hw83 : k0_chk83 v3367), ∀ a x, ((![v3367] : Fin 1 → IVec S16 32) a x).toNat < S32768.size a := fun v3367 k0_hw83 => k0_hw83

def k0_chk84 (v3369 : IVec S16 32) : Prop :=
  (∀ a x, ((![v3369] : Fin 1 → IVec S16 32) a x).toNat < S32768.size a)
theorem k0_idx84_inb : ∀ (v3369 : IVec S16 32) (k0_hw84 : k0_chk84 v3369), ∀ a x, ((![v3369] : Fin 1 → IVec S16 32) a x).toNat < S32768.size a := fun v3369 k0_hw84 => k0_hw84

def k0_chk85 (v3371 : IVec S16 32) : Prop :=
  (∀ a x, ((![v3371] : Fin 1 → IVec S16 32) a x).toNat < S32768.size a)
theorem k0_idx85_inb : ∀ (v3371 : IVec S16 32) (k0_hw85 : k0_chk85 v3371), ∀ a x, ((![v3371] : Fin 1 → IVec S16 32) a x).toNat < S32768.size a := fun v3371 k0_hw85 => k0_hw85

def k0_chk86 (v3373 : IVec S16 32) : Prop :=
  (∀ a x, ((![v3373] : Fin 1 → IVec S16 32) a x).toNat < S32768.size a)
theorem k0_idx86_inb : ∀ (v3373 : IVec S16 32) (k0_hw86 : k0_chk86 v3373), ∀ a x, ((![v3373] : Fin 1 → IVec S16 32) a x).toNat < S32768.size a := fun v3373 k0_hw86 => k0_hw86

def k0_chk87 (v3375 : IVec S16 32) : Prop :=
  (∀ a x, ((![v3375] : Fin 1 → IVec S16 32) a x).toNat < S32768.size a)
theorem k0_idx87_inb : ∀ (v3375 : IVec S16 32) (k0_hw87 : k0_chk87 v3375), ∀ a x, ((![v3375] : Fin 1 → IVec S16 32) a x).toNat < S32768.size a := fun v3375 k0_hw87 => k0_hw87

def k0_chk88 (v3377 : IVec S16 32) : Prop :=
  (∀ a x, ((![v3377] : Fin 1 → IVec S16 32) a x).toNat < S32768.size a)
theorem k0_idx88_inb : ∀ (v3377 : IVec S16 32) (k0_hw88 : k0_chk88 v3377), ∀ a x, ((![v3377] : Fin 1 → IVec S16 32) a x).toNat < S32768.size a := fun v3377 k0_hw88 => k0_hw88
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x64 : Shape := ⟨2, ![16384, 64]⟩
abbrev S64 : Shape := ⟨1, ![64]⟩
abbrev S1x64 : Shape := ⟨2, ![1, 64]⟩
abbrev S16384x8 : Shape := ⟨2, ![16384, 8]⟩
abbrev S_ : Shape := ⟨0, ![]⟩
abbrev S16384x8x1 : Shape := ⟨3, ![16384, 8, 1]⟩
abbrev S1 : Shape := ⟨1, ![1]⟩
abbrev S1x1x1 : Shape := ⟨3, ![1, 1, 1]⟩
abbrev S16384 : Shape := ⟨1, ![16384]⟩
abbrev S16384x1 : Shape := ⟨2, ![16384, 1]⟩
abbrev S16384x8x2 : Shape := ⟨3, ![16384, 8, 2]⟩

abbrev nBuf : Space → Nat
  | .hbm => 69
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S64, .f32⟩
  | .hbm, ⟨2, _⟩ => ⟨S1x64, .f32⟩
  | .hbm, ⟨3, _⟩ => ⟨S16384x64, .f32⟩
  | .hbm, ⟨4, _⟩ => ⟨S16384x64, .f32⟩
  | .hbm, ⟨5, _⟩ => ⟨S16384x8, .f32⟩
  | .hbm, ⟨6, _⟩ => ⟨S16384x8, .i32⟩
  | .hbm, ⟨7, _⟩ => ⟨S_, .i32⟩
  | .hbm, ⟨8, _⟩ => ⟨S16384x8, .i32⟩
  | .hbm, ⟨9, _⟩ => ⟨S16384x8, .i1⟩
  | .hbm, ⟨10, _⟩ => ⟨S_, .i32⟩
  | .hbm, ⟨11, _⟩ => ⟨S16384x8, .i32⟩
  | .hbm, ⟨12, _⟩ => ⟨S16384x8, .i32⟩
  | .hbm, ⟨13, _⟩ => ⟨S16384x8, .i32⟩
  | .hbm, ⟨14, _⟩ => ⟨S16384x8x1, .i32⟩
  | .hbm, ⟨15, _⟩ => ⟨S1, .i32⟩
  | .hbm, ⟨16, _⟩ => ⟨S_, .i32⟩
  | .hbm, ⟨17, _⟩ => ⟨S16384x8x1, .i32⟩
  | .hbm, ⟨18, _⟩ => ⟨S16384x8x1, .i1⟩
  | .hbm, ⟨19, _⟩ => ⟨S1x1x1, .i32⟩
  | .hbm, ⟨20, _⟩ => ⟨S16384x8x1, .i32⟩
  | .hbm, ⟨21, _⟩ => ⟨S16384x8x1, .i1⟩
  | .hbm, ⟨22, _⟩ => ⟨S16384x8x1, .i1⟩
  | .hbm, ⟨23, _⟩ => ⟨S_, .i1⟩
  | .hbm, ⟨24, _⟩ => ⟨S16384x8, .i1⟩
  | .hbm, ⟨25, _⟩ => ⟨S16384x8, .f32⟩
  | .hbm, ⟨26, _⟩ => ⟨S_, .f32⟩
  | .hbm, ⟨27, _⟩ => ⟨S16384x8, .f32⟩
  | .hbm, ⟨28, _⟩ => ⟨S16384x8, .f32⟩
  | .hbm, ⟨29, _⟩ => ⟨S_, .f32⟩
  | .hbm, ⟨30, _⟩ => ⟨S16384x8, .f32⟩
  | .hbm, ⟨31, _⟩ => ⟨S16384x8, .f32⟩
  | .hbm, ⟨32, _⟩ => ⟨S_, .f32⟩
  | .hbm, ⟨33, _⟩ => ⟨S16384, .f32⟩
  | .hbm, ⟨34, _⟩ => ⟨S_, .f32⟩
  | .hbm, ⟨35, _⟩ => ⟨S16384, .f32⟩
  | .hbm, ⟨36, _⟩ => ⟨S16384, .f32⟩
  | .hbm, ⟨37, _⟩ => ⟨S16384x1, .f32⟩
  | .hbm, ⟨38, _⟩ => ⟨S16384x8, .f32⟩
  | .hbm, ⟨39, _⟩ => ⟨S16384x8, .f32⟩
  | .hbm, ⟨40, _⟩ => ⟨S16384x8, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S16384x8, .f32⟩
  | .hbm, ⟨45, _⟩ => ⟨S16384x8, .f32⟩
  | .hbm, ⟨46, _⟩ => ⟨S16384, .i32⟩
  | .hbm, ⟨47, _⟩ => ⟨S16384x1, .i32⟩
  | .hbm, ⟨48, _⟩ => ⟨S_, .f32⟩
  | .hbm, ⟨49, _⟩ => ⟨S16384x64, .f32⟩
  | .hbm, ⟨50, _⟩ => ⟨S_, .i32⟩
  | .hbm, ⟨51, _⟩ => ⟨S16384x1, .i32⟩
  | .hbm, ⟨52, _⟩ => ⟨S16384x1, .i1⟩
  | .hbm, ⟨53, _⟩ => ⟨S_, .i32⟩
  | .hbm, ⟨54, _⟩ => ⟨S16384x1, .i32⟩
  | .hbm, ⟨55, _⟩ => ⟨S16384x1, .i32⟩
  | .hbm, ⟨56, _⟩ => ⟨S16384x1, .i32⟩
  | .hbm, ⟨57, _⟩ => ⟨S_, .i32⟩
  | .hbm, ⟨58, _⟩ => ⟨S16384x8, .i32⟩
  | .hbm, ⟨59, _⟩ => ⟨S16384x8, .i1⟩
  | .hbm, ⟨60, _⟩ => ⟨S_, .i32⟩
  | .hbm, ⟨61, _⟩ => ⟨S16384x8, .i32⟩
  | .hbm, ⟨62, _⟩ => ⟨S16384x8, .i32⟩
  | .hbm, ⟨63, _⟩ => ⟨S16384x8, .i32⟩
  | .hbm, ⟨64, _⟩ => ⟨S16384x8, .i32⟩
  | .hbm, ⟨65, _⟩ => ⟨S16384x8x1, .i32⟩
  | .hbm, ⟨66, _⟩ => ⟨S16384x8x1, .i32⟩
  | .hbm, ⟨67, _⟩ => ⟨S16384x8x2, .i32⟩
  | .hbm, ⟨68, _⟩ => ⟨S16384x64, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_values : Ref sig .tc := ⟨.hbm, 5, rfl⟩
abbrev main_indices : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_cst : Ref sig .tc := ⟨.hbm, 26, rfl⟩
abbrev main_call0_v14 : Ref sig .tc := ⟨.hbm, 27, rfl⟩
abbrev main_v3 : Ref sig .tc := ⟨.hbm, 28, rfl⟩
abbrev main_cst : Ref sig .tc := ⟨.hbm, 29, rfl⟩
abbrev main_v4 : Ref sig .tc := ⟨.hbm, 30, rfl⟩
abbrev main_v5 : Ref sig .tc := ⟨.hbm, 31, rfl⟩
abbrev main_cst_0 : Ref sig .tc := ⟨.hbm, 32, rfl⟩
abbrev main_v6 : Ref sig .tc := ⟨.hbm, 33, rfl⟩
abbrev main_cst_1 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_cst_2 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_cst_3 : Ref sig .tc := ⟨.hbm, 48, rfl⟩
abbrev main_v19 : Ref sig .tc := ⟨.hbm, 49, rfl⟩
abbrev main_c : Ref sig .tc := ⟨.hbm, 50, rfl⟩
abbrev main_v20 : Ref sig .tc := ⟨.hbm, 51, rfl⟩
abbrev main_v21 : Ref sig .tc := ⟨.hbm, 52, rfl⟩
abbrev main_c_4 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_c_5 : Ref sig .tc := ⟨.hbm, 57, rfl⟩
abbrev main_v25 : Ref sig .tc := ⟨.hbm, 58, rfl⟩
abbrev main_v26 : Ref sig .tc := ⟨.hbm, 59, rfl⟩
abbrev main_c_6 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩

abbrev nD : Nat := 1
abbrev τ : Topo := Topo.v7x

variable {F : FTy → Type} [FloatOps F]
-- ==== Proof.Row.lean ====
/-
  WHAT THE KERNEL DOES TO ONE ROW, as a function of the row's 64 logits and of beta, over any float instance; and the reading of an indexed
  store at one cell.
-/
module

public import Idealize.ShloMosaic.Lib.SparseCore.Ops

@[expose] public section

noncomputable section

namespace Cert.Proof.Row

open Idealize.ShloMosaic

variable {F : FTy → Type} [FloatOps F]

/-- Minus infinity. -/
def ninf : F .f32 := Scalar.ofBits .f32 0xFF800000#32
/-- Zero. -/
def zero : F .f32 := Scalar.ofBits .f32 0x00000000#32

/-- The greatest of the first `n` scores, as the scan finds it, and the first column that has it. -/
def best (s : ℕ → F .f32) : ℕ → F .f32 × ℕ
  | 0 => (ninf, 0)
  | n + 1 => if FloatOps.cmpf .ogt (s n) (best s n).1 = 1 then (s n, n) else best s n

/-- The scores after a round: the picked one is minus infinity. -/
def next (s : ℕ → F .f32) : ℕ → F .f32 := fun j => if j = (best s 64).2 then ninf else s j

/-- What `n` rounds pick. -/
def sels : ℕ → (ℕ → F .f32) → List (F .f32 × ℕ)
  | 0, _ => []
  | n + 1, s => best s 64 :: sels n (next s)

/-- The picks with their columns' beta added back. -/
def addBack (β : ℕ → F .f32) (l : List (F .f32 × ℕ)) : List (F .f32 × ℕ) := l.map fun p => (FloatOps.addf p.1 (β p.2), p.2)

/-- A fold of a list from its first element. -/
def fold1 (op : F .f32 → F .f32 → F .f32) : List (F .f32) → F .f32
  | [] => zero
  | x :: l => l.foldl op x

/-- The exponentials, each value less the greatest. -/
def exps (l : List (F .f32 × ℕ)) : List (F .f32 × ℕ) :=
  l.map fun x => (FloatOps.exp (FloatOps.subf x.1 (fold1 FloatOps.maximumf (l.map Prod.fst))), x.2)

/-- A row after the quotients are stored into it in turn. -/
def stores (den : F .f32) : List (F .f32 × ℕ) → (ℕ → F .f32) → ℕ → F .f32
  | [], g => g
  | e :: l, g => stores den l fun j => if j = e.2 then FloatOps.divf e.1 den else g j

/-- A list of exponentials stored into a row, over their sum. -/
def spread (r : List (F .f32 × ℕ)) (g : ℕ → F .f32) : ℕ → F .f32 := stores (fold1 FloatOps.addf (r.map Prod.fst)) r g

/-- The row of the result. -/
def out (x β : ℕ → F .f32) : ℕ → F .f32 :=
  spread (exps (addBack β (sels 8 fun j => FloatOps.subf (x j) (β j)))) fun _ => zero

/-- The picked column is one of the columns scanned. -/
theorem best_lt (s : ℕ → F .f32) (n : ℕ) : (best s n).2 < n ∨ (best s n).2 = 0 := by
  induction n with
  | zero => exact .inr rfl
  | succ n ih =>
    unfold best
    split
    · exact .inl (Nat.lt_succ_self n)
    · exact ih.imp_left fun h => h.trans (Nat.lt_succ_self n)

/-- The pick of a row is one of its columns. -/
theorem best_lt64 (s : ℕ → F .f32) : (best s 64).2 < 64 := by
  rcases best_lt s 64 with h | h
  · exact h
  · rw [h]; decide

/-- Scores that agree on the columns scanned give the same pick. -/
theorem best_congr {s s' : ℕ → F .f32} (n : ℕ) (h : ∀ j < n, s j = s' j) : best s n = best s' n := by
  induction n with
  | zero => rfl
  | succ n ih => unfold best; rw [ih fun j hj => h j (hj.trans (Nat.lt_succ_self n)), h n (Nat.lt_succ_self n)]

/-- Scores that agree on the row agree after a round. -/
theorem next_congr {s s' : ℕ → F .f32} (h : ∀ j < 64, s j = s' j) : ∀ j < 64, next s j = next s' j := by
  intro j hj; unfold next; rw [best_congr 64 h, h j hj]

/-- Scores that agree on the row give the same picks. -/
theorem sels_congr (n : ℕ) : ∀ {s s' : ℕ → F .f32}, (∀ j < 64, s j = s' j) → sels n s = sels n s' := by
  induction n with
  | zero => intros; rfl
  | succ n ih => intro s s' h; unfold sels; rw [best_congr 64 h, ih (next_congr h)]

/-- All picks are columns of the row. -/
theorem sels_lt (n : ℕ) : ∀ (s : ℕ → F .f32), ∀ p ∈ sels n s, p.2 < 64 := by
  induction n with
  | zero => intro s p hp; exact absurd hp List.not_mem_nil
  | succ n ih =>
    intro s p hp
    rcases List.mem_cons.mp hp with h | h
    · rw [h]; exact best_lt64 s
    · exact ih _ p h

/-- A column of a row stored into is decided by what it held. -/
theorem stores_congr (den : F .f32) (l : List (F .f32 × ℕ)) (j : ℕ) : ∀ {g g' : ℕ → F .f32}, g j = g' j → stores den l g j = stores den l g' j := by
  induction l with
  | nil => intro g g' h; exact h
  | cons e l ih =>
    intro g g' h
    unfold stores
    refine ih ?_
    show (if _ then _ else _) = (if _ then _ else _)
    rw [h]

/-- Rows that agree on their columns have one result. -/
theorem out_congr {x x' β : ℕ → F .f32} (h : ∀ j < 64, x j = x' j) : out x β = out x' β := by
  unfold out; rw [sels_congr 8 fun j hj => by rw [h j hj]]

/-! ## Cells of a buffer of rank one -/

/-- Cell number `n` of a buffer of `N` elements. -/
def cell (N : ℕ) [NeZero N] (n : ℕ) : (⟨1, ![N]⟩ : Shape).Idx := fun a => ⟨n % N, by
  rw [Fin.eq_zero a]; exact Nat.mod_lt _ (NeZero.pos N)⟩

/-- A cell's number, within the array. -/
theorem cell_val {N : ℕ} [NeZero N] {n : ℕ} (h : n < N) : ((cell N n) 0).val = n := Nat.mod_eq_of_lt h

/-- A cell is its number's. -/
theorem eq_cell {N : ℕ} [NeZero N] (j : (⟨1, ![N]⟩ : Shape).Idx) {n : ℕ} (h : (j 0).val = n) : j = cell N n := by
  subst h; funext a; rw [Fin.eq_zero a]; exact Fin.ext (Nat.mod_eq_of_lt (j 0).isLt).symm

/-- An index of a flat array is known by its number. -/
theorem idx_ext {N : ℕ} {j j' : (⟨1, ![N]⟩ : Shape).Idx} (h : (j 0).val = (j' 0).val) : j = j' := by
  funext a; rw [Fin.eq_zero a]; exact Fin.ext h

/-! ## An indexed store, one cell at a time -/

/-- A fold none of whose steps touches `j` leaves it. -/
theorem foldl_miss {J A K : Type} (st : (J → A) → K → J → A) (j : J) (L : List K) (h : ∀ k ∈ L, ∀ g, st g k j = g j) (f : J → A) :
    L.foldl st f j = f j := by
  induction L generalizing f with
  | nil => rfl
  | cons k L ih =>
    rw [List.foldl_cons, ih fun k' hk' => h k' (List.mem_cons_of_mem _ hk')]
    exact h k List.mem_cons_self f

/-- A fold in which one step alone touches `j` leaves what that step puts there. -/
theorem foldl_hit {J A K : Type} (st : (J → A) → K → J → A) (j : J) (L : List K) (k : K) (hk : k ∈ L) (y : A)
    (hit : ∀ g, st g k j = y) (miss : ∀ k', k' ≠ k → ∀ g, st g k' j = g j) (f : J → A) : L.foldl st f j = y := by
  induction L generalizing f with
  | nil => exact absurd hk List.not_mem_nil
  | cons a L ih =>
    rw [List.foldl_cons]
    by_cases hL : k ∈ L
    · exact ih hL _
    · have hka : k = a := (List.mem_cons.mp hk).resolve_right hL
      rw [foldl_miss st j L fun k' hk' => miss k' fun e => hL (e ▸ hk'), ← hka]
      exact hit f

section
variable {N : ℕ} (idx : IVec ⟨1, ![16]⟩ 32) (v : FVec F ⟨1, ![16]⟩ .f32)

/-- A cell no lane names keeps its contents. -/
theorem storeIdx_miss (f : FVec F ⟨1, ![N]⟩ .f32) (h : ∀ a x, ((![idx] : Fin 1 → IVec ⟨1, ![16]⟩ 32) a x).toNat < (⟨1, ![N]⟩ : Shape).size a)
    (j : (⟨1, ![N]⟩ : Shape).Idx) (hj : ∀ x, (idx x).toNat ≠ (j 0).val) :
    storeIdx (F := F) (e := .f32) f ![idx] v (fun _ => 1#1) false h j = f j := by
  refine foldl_miss _ j _ (fun k _ g => ?_) f
  exact if_neg fun hc => hj _ (hc 0).symm

/-- A cell some lane names holds that lane's word, the lanes naming cells of their own. -/
theorem storeIdx_hit (f : FVec F ⟨1, ![N]⟩ .f32) (h : ∀ a x, ((![idx] : Fin 1 → IVec ⟨1, ![16]⟩ 32) a x).toNat < (⟨1, ![N]⟩ : Shape).size a)
    (hinj : ∀ x y : (⟨1, ![16]⟩ : Shape).Idx, (idx x).toNat = (idx y).toNat → x = y)
    (j : (⟨1, ![N]⟩ : Shape).Idx) (x : (⟨1, ![16]⟩ : Shape).Idx) (hj : (idx x).toNat = (j 0).val) :
    storeIdx (F := F) (e := .f32) f ![idx] v (fun _ => 1#1) false h j = v x := by
  obtain ⟨k, rfl⟩ : ∃ k : Fin ((![16] : Fin 1 → ℕ) 0), (Shape.ofLane k : (⟨1, ![16]⟩ : Shape).Idx) = x :=
    ⟨x 0, funext fun a => by rw [Fin.eq_zero a]; rfl⟩
  refine foldl_hit _ j _ k (List.mem_finRange k) _ (fun g => ?_) (fun k' hk' g => ?_) f
  · refine if_pos fun a => ?_
    rw [Fin.eq_zero a]; exact hj.symm
  · refine if_neg fun hc => hk' ?_
    exact congrFun (hinj _ _ ((hc 0).symm.trans hj.symm)) 0
end

end Cert.Proof.Row
-- ==== Proof.Compact.lean ====
/-
  THE TRIP OF THE GROUP LOOP, WRITTEN SHORT. The printed region of the second loop is a straight line of 4900 statements; here it is the
  same sequence of effects written by recursion: the 64 staging steps, the eight scans of 64 columns, the eight gathers and the eight
  scatters. Every piece takes what follows it as an argument.
-/
module

public import proofs.«01_k».proof.KernelIdeal
public import proofs.«01_k».proof.Proof.Gen.KernelIdeal
public import Idealize.ShloMosaic.Lib.SparseCore.Ops

@[expose] public section

noncomputable section

namespace Cert.Proof.Compact

open Cert.KernelIdeal Cert.KernelIdeal.Facts₀
open Idealize.ShloMosaic Idealize.SL.Sem

variable {F : FTy → Type} [FloatOps F]

/-- A vector subcore's program at grid point `i`. -/
abbrev Tile (F : FTy → Type) (i : grid0.Coords) (α : Type) :=
  Prog (TpuEff nD τ sig (Elt F) Λ₀ (.scVector ((i 0).castLE hcore0) ((i 1).castLE hsub0))) α

/-- The sixteen lane numbers. -/
abbrev lane : IVec S16 32 := iota .scVector S16 32 [0] iota_S16_d0_w32_scVector
/-- Minus infinity in every lane. -/
abbrev negInf : FVec F S16 .f32 := broadcast S16 (Scalar.ofBits .f32 0xFF800000#32)
/-- Zero in every lane. -/
abbrev zeros : FVec F S16 .f32 := broadcast S16 (Scalar.ofBits .f32 0x00000000#32)

/-- Where trip `t` reads sixteen columns from `16 c` on of its row `r`. -/
def rowOff (t : Fin k0_t2_loop.trips) (r c : ℕ) : Fin 1 → ℕ :=
  ![(Scalar.indexCast (Scalar.addi (Scalar.addi (Scalar.muli (Scalar.muli (Scf.iv 0#32 1#32 t) 16#32) 64#32) (BitVec.ofNat 32 (64 * r)))
    (BitVec.ofNat 32 (16 * c)))).toNat]

/-- That place as a number. -/
theorem rowOff_zero (t : Fin k0_t2_loop.trips) (r c : ℕ) (hr : r < 16) (hc : c < 4) : rowOff t r c 0 = 1024 * t.val + 64 * r + 16 * c := by
  have ht : t.val < 32 := t.isLt
  show ((((Scf.iv 0#32 1#32 t : BitVec 32) * 16#32) * 64#32 + BitVec.ofNat 32 (64 * r)) + BitVec.ofNat 32 (16 * c)).toNat = _
  rw [show (Scf.iv 0#32 1#32 t : BitVec 32) = BitVec.ofNat 32 t.val by unfold Scf.iv; simp]
  simp only [BitVec.toNat_add, BitVec.toNat_mul, BitVec.toNat_ofNat]
  omega

/-- Sixteen columns from there are within the slice. -/
theorem rowOff_inb (t : Fin k0_t2_loop.trips) (n : ℕ) (h : n < 64) : ∀ a, rowOff t (n / 4) (n % 4) a + S16.size a ≤ S32768.size a := by
  intro a
  rw [Fin.eq_zero a]
  have ht : t.val < 32 := t.isLt
  rw [rowOff_zero t (n / 4) (n % 4) (by omega) (by omega)]
  show _ + 16 ≤ 32768
  omega

/-- Where row `r`'s columns from `16 c` on are staged: column `j` of the group starts at `17 j`. -/
def stageIdx (r c : ℕ) : IVec S16 32 :=
  addi (muli (addi (broadcast S16 (BitVec.ofNat 32 (16 * c))) lane) (broadcast S16 17#32)) (broadcast S16 (BitVec.ofNat 32 r))

/-- A selection: sixteen values, their column numbers, and that the numbers are columns. -/
structure Sel (F : FTy → Type) where
  val : Vec F S16 .f32
  col : IVec S16 32
  ok : k0_chk73 col

section
variable {i : grid0.Coords} {α : Type}
variable (inV outV : Memref sig .scVector .vmem S32768 .f32) (betaV : Memref sig .scVector .vmem S64 .f32) (stV : Memref sig .scVector .vmem S1088 .f32)

/-- One staging step. -/
def put (t : Fin k0_t2_loop.trips) (β : ℕ → Vec F S16 .f32) (n : ℕ) (h : n < 64) (k : Tile F i α) : Tile F i α :=
  .op (.load inV (Rect.unit (s := S32768) (rowOff t (n / 4) (n % 4)) S16.size (rowOff_inb t n h)).toLoadRect (View.loadsAt_vmem h_S16)) fun x =>
  .op (.assume (k0_chk1 (stageIdx (n / 4) (n % 4))) (k0_chk1.dec _)) fun hw =>
  SparseCore.vectorStoreIdx stV ![stageIdx (n / 4) (n % 4)] (subf x (β (n % 4))) (fun _ => 1#1) false (k0_idx1_inb _ hw.down)
    (View.stores_vmem_bits_univ h_S1088 rfl) >>= fun _ => k

/-- The staging steps from number `n` on. -/
def stage (t : Fin k0_t2_loop.trips) (β : ℕ → Vec F S16 .f32) : (f n : ℕ) → n + f ≤ 64 → Tile F i α → Tile F i α
  | 0, _, _, k => k
  | f + 1, n, h, k => put inV stV t β n (by omega) (stage t β f (n + 1) (by omega) k)

/-- A column's sixteen lanes are within the staging buffer. -/
theorem colOff_inb (j : ℕ) (h : j < 64) : ∀ a, (![17 * j] : Fin 1 → ℕ) a + S16.size a ≤ S1088.size a := by
  intro a; fin_cases a; show 17 * j + 16 ≤ 1088; omega

/-- The scan of the columns from number `j` on: a lane keeps the greatest score so far and the first column that has it. -/
def scan : (f j : ℕ) → j + f ≤ 64 → Vec F S16 .f32 → IVec S16 32 → (Vec F S16 .f32 → IVec S16 32 → Tile F i α) → Tile F i α
  | 0, _, _, m, b, k => k m b
  | f + 1, j, h, m, b, k =>
    .op (.load stV (Rect.unit (s := S1088) ![17 * j] S16.size (colOff_inb j (by omega))).toLoadRect (View.loadsAt_vmem h_S16)) fun s =>
      scan f (j + 1) (by omega) (select (cmpf .ogt s m) s m) (select (cmpf .ogt s m) (broadcast S16 (BitVec.ofNat 32 j)) b) k

/-- The cell of the staging buffer at column `b` of each lane. -/
def cellIdx (b : IVec S16 32) : IVec S16 32 := addi (muli b (broadcast S16 17#32)) lane

/-- One round: the scan, then the picked cells overwritten by minus infinity. -/
def round (k : Sel F → Tile F i α) : Tile F i α :=
  scan stV 64 0 (by omega) negInf (broadcast S16 0#32) fun m b =>
  .op (.assume (k0_chk73 b) (k0_chk73.dec b)) fun h1 =>
  .op (.assume (k0_chk65 (cellIdx b)) (k0_chk65.dec _)) fun h2 =>
  SparseCore.vectorStoreIdx stV ![cellIdx b] negInf (fun _ => 1#1) false (k0_idx65_inb _ h2.down)
    (View.stores_vmem_bits_univ h_S1088 rfl) >>= fun _ => k ⟨m, b, h1.down⟩

/-- The rounds, and what they picked. -/
def rounds : ℕ → (List (Sel F) → Tile F i α) → Tile F i α
  | 0, k => k []
  | n + 1, k => round stV fun s => rounds n fun l => k (s :: l)

/-- Every picked score with its column's beta added. -/
def gathers : List (Sel F) → (List (FVec F S16 .f32 × IVec S16 32) → Tile F i α) → Tile F i α
  | [], k => k []
  | s :: l, k => SparseCore.vectorLoadIdx betaV ![s.col] (k0_idx73_inb _ s.ok) (View.loads_vmem h_S64) >>= fun x =>
      gathers l fun r => k ((addf s.val x, s.col) :: r)

/-- The quotients stored, each at its row's column. -/
def scatters (rows : IVec S16 32) (den : FVec F S16 .f32) : List (FVec F S16 .f32 × IVec S16 32) → Tile F i α → Tile F i α
  | [], k => k
  | e :: l, k =>
    .op (.assume (k0_chk81 (addi rows e.2)) (k0_chk81.dec _)) fun h =>
    SparseCore.vectorStoreIdx outV ![addi rows e.2] (divf e.1 den) (fun _ => 1#1) false (k0_idx81_inb _ h.down)
      (View.stores_vmem_bits_univ h_S32768 rfl) >>= fun _ => scatters rows den l k

/-- A fold of a list from its first element. -/
def fold1 (op : FVec F S16 .f32 → FVec F S16 .f32 → FVec F S16 .f32) : List (FVec F S16 .f32) → FVec F S16 .f32
  | [] => zeros
  | x :: l => l.foldl op x

/-- The exponentials of a list of values, each less the greatest. -/
def expsOf (l : List (FVec F S16 .f32 × IVec S16 32)) : List (FVec F S16 .f32 × IVec S16 32) :=
  l.map fun x => (exp (subf x.1 (fold1 maximumf (l.map Prod.fst))), x.2)

/-- Where each lane's row of the group starts. -/
def rowsOf (t : Fin k0_t2_loop.trips) : IVec S16 32 :=
  muli (addi (broadcast S16 (Scalar.muli (Scf.iv 0#32 1#32 t) 16#32)) lane) (broadcast S16 64#32)

/-- A trip of the group loop. -/
def trip (t : Fin k0_t2_loop.trips) (β : ℕ → Vec F S16 .f32) : Tile F i (BitVec 32) :=
  stage inV stV t β 64 0 (by omega) <|
  rounds stV 8 fun l => gathers betaV l fun r =>
  scatters outV (rowsOf t) (fold1 addf ((expsOf r).map Prod.fst)) (expsOf r) (.ret 0#32)

/-- The four vectors of beta by number. -/
def pick4 (v6 v7 v8 v9 : Vec F S16 .f32) : ℕ → Vec F S16 .f32
  | 0 => v6 | 1 => v7 | 2 => v8 | _ => v9

end

end Cert.Proof.Compact
-- ==== Proof.Base.lean ====
/-
  THE SETTING OF THE RUN: the program as the launch theorem sees it, the resource algebra, and the rules for one load and one indexed load
  or store of a subcore's scratch buffers, each buffer held whole.
-/
module

public import proofs.«01_k».proof.Proof.Row
public import proofs.«01_k».proof.Proof.Compact
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Run

open Cert.KernelIdeal Cert.KernelIdeal.Facts₀

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Row (cell eq_cell idx_ext)
open Cert.Proof.Compact (Tile)

variable {F : FTy → Type}

/-- The labels, the configuration of the call, the definitions and the (empty) variants it is run with. -/
abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' rounds beside the transfers' counters. -/
abbrev UH : Type := URounds (GSem nD τ sig) ℕ
/-- The ghost state: the handshakes' rounds and the transfers' counters. -/
abbrev UU : Type := UH × Counters

local notation "𝕄" => MT nD τ sig (HIx 1) (Elt F) ℕ UU ℕ

/-- The handshakes' rounds, as a part of the ghost state. -/
abbrev EH : Emb UH (MT nD τ sig (HIx 1) (Elt F) ℕ UU ℕ) := embL

variable [FloatOps F]

/-- The vector subcore at grid point `i` of device `d`. -/
abbrev thr (d : Dev nD) (i : grid0.Coords) : Thread nD τ := V d ((i 0).castLE hcore0) ((i 1).castLE hsub0)

section
variable (d : Dev nD) (i : grid0.Coords)

/-- The subcore's four scratch buffers, whole: the rows read, the rows written, beta, the staging buffer. -/
abbrev pIn (f : FVec F S32768 .f32) : sProp 𝕄 := (thr d i).loc cc0_scratch0 ↦{fullShare} f
abbrev pOut (f : FVec F S32768 .f32) : sProp 𝕄 := (thr d i).loc cc0_scratch1 ↦{fullShare} f
abbrev pBeta (f : FVec F S64 .f32) : sProp 𝕄 := (thr d i).loc cc0_scratch2 ↦{fullShare} f
abbrev pSt (f : FVec F S1088 .f32) : sProp 𝕄 := (thr d i).loc cc0_scratch3 ↦{fullShare} f

/-- The four scratch buffers as the body names them. -/
abbrev inV : Memref sig .scVector .vmem S32768 .f32 := Memref.whole cc0_scratch0
abbrev outV : Memref sig .scVector .vmem S32768 .f32 := Memref.whole cc0_scratch1
abbrev betaV : Memref sig .scVector .vmem S64 .f32 := Memref.whole cc0_scratch2
abbrev stV : Memref sig .scVector .vmem S1088 .f32 := Memref.whole cc0_scratch3

/-- The subcore's weakest precondition. -/
abbrev wpt {α : Type} (p : Tile F i α) (Q : α → sProp 𝕄) : sProp 𝕄 := wp frame (wpE (defs₀ (F := F)) 𝒱₀ (thr d i) none) Set.univ p Q

variable {d i}
variable {α : Type} {Q : α → sProp (MT nD τ sig (HIx 1) (Elt F) ℕ UU ℕ)}

/-- The sixteen cells from number `n` on of a buffer of `N`. -/
def win (N : ℕ) [NeZero N] (f : FVec F ⟨1, ![N]⟩ .f32) (n : ℕ) : Vec F S16 .f32 := fun x => f (cell N (n + (x 0).val))

/-- Beta's elements at a vector of columns. -/
def pickAt (f : FVec F S64 .f32) (idx : IVec S16 32) : Vec F S16 .f32 := fun x => f (cell 64 (idx x).toNat)

/-- A check that holds. -/
theorem chk {P : Prop} {dP : Decidable P} {k : PLift P → Tile F i α} (h : P) :
    wpt d i (k ⟨h⟩) Q ⊢ wpt d i (.op (.assume P dP) k) Q :=
  wp_assume 𝒱₀ (thr d i) none Set.univ h

/-- Sixteen elements of the rows read, from `off` on. -/
theorem ld_in {off : Fin 1 → ℕ} {inb hl} {k : Vec F S16 .f32 → Tile F i α} {f : FVec F S32768 .f32} :
    pIn d i f ⊢ iprop((pIn d i f -∗ wpt d i (k (win 32768 f (off 0))) Q)
      -∗ wpt d i (.op (.load inV (Rect.unit (s := S32768) off S16.size inb).toLoadRect hl) k) Q) := by
  have e : (inV.view.readAt (Elt F) (Rect.unit (s := S32768) off S16.size inb).toLoadRect f : Vec F S16 .f32) = win 32768 f (off 0) := by
    funext x
    rw [View.readAt_apply]
    simp only [Memref.view_whole, View.read_whole]
    refine congrArg f (eq_cell _ ?_)
    rw [LoadRect.idx_apply]
    show off 0 + 1 * (x 0).val = _
    rw [Nat.one_mul]
  rw [← e]
  exact wp_load 𝒱₀ (thr d i) none Set.univ (m := inV) (S := Finset.univ) (Finset.subset_univ _)

/-- Sixteen elements of the staging buffer, from `off` on. -/
theorem ld_st {off : Fin 1 → ℕ} {inb hl} {k : Vec F S16 .f32 → Tile F i α} {f : FVec F S1088 .f32} :
    pSt d i f ⊢ iprop((pSt d i f -∗ wpt d i (k (win 1088 f (off 0))) Q)
      -∗ wpt d i (.op (.load stV (Rect.unit (s := S1088) off S16.size inb).toLoadRect hl) k) Q) := by
  have e : (stV.view.readAt (Elt F) (Rect.unit (s := S1088) off S16.size inb).toLoadRect f : Vec F S16 .f32) = win 1088 f (off 0) := by
    funext x
    rw [View.readAt_apply]
    simp only [Memref.view_whole, View.read_whole]
    refine congrArg f (eq_cell _ ?_)
    rw [LoadRect.idx_apply]
    show off 0 + 1 * (x 0).val = _
    rw [Nat.one_mul]
  rw [← e]
  exact wp_load 𝒱₀ (thr d i) none Set.univ (m := stV) (S := Finset.univ) (Finset.subset_univ _)

/-- Sixteen elements of beta, from `off` on. -/
theorem ld_beta {off : Fin 1 → ℕ} {inb hl} {k : Vec F S16 .f32 → Tile F i α} {f : FVec F S64 .f32} :
    pBeta d i f ⊢ iprop((pBeta d i f -∗ wpt d i (k (win 64 f (off 0))) Q)
      -∗ wpt d i (.op (.load betaV (Rect.unit (s := S64) off S16.size inb).toLoadRect hl) k) Q) := by
  have e : (betaV.view.readAt (Elt F) (Rect.unit (s := S64) off S16.size inb).toLoadRect f : Vec F S16 .f32) = win 64 f (off 0) := by
    funext x
    rw [View.readAt_apply]
    simp only [Memref.view_whole, View.read_whole]
    refine congrArg f (eq_cell _ ?_)
    rw [LoadRect.idx_apply]
    show off 0 + 1 * (x 0).val = _
    rw [Nat.one_mul]
  rw [← e]
  exact wp_load 𝒱₀ (thr d i) none Set.univ (m := betaV) (S := Finset.univ) (Finset.subset_univ _)

/-- Beta's elements at a vector of columns, loaded. -/
theorem gather_beta {idx : IVec S16 32} {h hl} {k : Vec F S16 .f32 → Tile F i α} {f : FVec F S64 .f32} :
    pBeta d i f ⊢ iprop((pBeta d i f -∗ wpt d i (k (pickAt f idx)) Q)
      -∗ wpt d i (SparseCore.vectorLoadIdx betaV ![idx] h hl >>= k) Q) := by
  have e2 : (betaV.access (.whole S64)).read (Elt F) f = f := Memref.read_access_whole (Elt F) cc0_scratch2 f
  have e : loadIdx (F := F) (e := .f32) (s := S64) ((betaV.access (.whole S64)).read (Elt F) f) ![idx] h = pickAt f idx := by
    rw [e2]; funext x; exact congrArg f (eq_cell _ rfl)
  have w := SparseCore.wp_vectorLoadIdx (F := F) (defs := defs₀ (F := F)) 𝒱₀ (thr d i) none Set.univ (base := betaV) (idxs := ![idx]) (h := h)
    (hl := hl) (S := Finset.univ) (q := fullShare) (f := f) (k := k) (Q := Q) (Finset.subset_univ _)
  rw [e] at w
  exact w

/-- An indexed store to the staging buffer. -/
theorem scatter_st {idx : IVec S16 32} {v : FVec F S16 .f32} {h hs} {k : Tile F i α} {f : FVec F S1088 .f32} :
    pSt d i f ⊢ iprop((pSt d i (storeIdx (F := F) (e := .f32) f ![idx] v (fun _ => 1#1) false h) -∗ wpt d i k Q)
      -∗ wpt d i (SparseCore.vectorStoreIdx stV ![idx] v (fun _ => 1#1) false h hs >>= fun _ => k) Q) := by
  have w := SparseCore.wp_vectorStoreIdx (F := F) (defs := defs₀ (F := F)) 𝒱₀ (thr d i) none Set.univ (base := stV) (idxs := ![idx])
    (v := v) (mask := fun _ => 1#1) (add := false) (h := h) (hs := hs) (f := f) (k := fun _ => k) (Q := Q)
  have e1 : (stV.access (.whole S1088)).set = Finset.univ := Memref.set_access_whole cc0_scratch3
  have e2 : (stV.access (.whole S1088)).read (Elt F) f = f := Memref.read_access_whole (Elt F) cc0_scratch3 f
  have e3 : ∀ g, (stV.access (.whole S1088)).write (Elt F) f g Finset.univ = g := fun g => Memref.write_access_whole_univ (Elt F) cc0_scratch3 f g
  rw [e1, e2, e3] at w
  exact w

/-- An indexed store to the rows written. -/
theorem scatter_out {idx : IVec S16 32} {v : FVec F S16 .f32} {h hs} {k : Tile F i α} {f : FVec F S32768 .f32} :
    pOut d i f ⊢ iprop((pOut d i (storeIdx (F := F) (e := .f32) f ![idx] v (fun _ => 1#1) false h) -∗ wpt d i k Q)
      -∗ wpt d i (SparseCore.vectorStoreIdx outV ![idx] v (fun _ => 1#1) false h hs >>= fun _ => k) Q) := by
  have w := SparseCore.wp_vectorStoreIdx (F := F) (defs := defs₀ (F := F)) 𝒱₀ (thr d i) none Set.univ (base := outV) (idxs := ![idx])
    (v := v) (mask := fun _ => 1#1) (add := false) (h := h) (hs := hs) (f := f) (k := fun _ => k) (Q := Q)
  have e1 : (outV.access (.whole S32768)).set = Finset.univ := Memref.set_access_whole cc0_scratch1
  have e2 : (outV.access (.whole S32768)).read (Elt F) f = f := Memref.read_access_whole (Elt F) cc0_scratch1 f
  have e3 : ∀ g, (outV.access (.whole S32768)).write (Elt F) f g Finset.univ = g := fun g => Memref.write_access_whole_univ (Elt F) cc0_scratch1 f g
  rw [e1, e2, e3] at w
  exact w

end

end Cert.Proof.Run
-- ==== Proof.Steps.lean ====
/-
  THE PIECES OF A TRIP, EACH RUN ONCE: what the staging steps, a scan, a round, the rounds, the gathers and the scatters leave, lane by lane
  in the terms of one row (`Row`), by induction over the pieces.
-/
module

public import proofs.«01_k».proof.Proof.Base

@[expose] public section

noncomputable section

namespace Cert.Proof.Run

open Cert.KernelIdeal Cert.KernelIdeal.Facts₀

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Cert.Proof.Row (cell cell_val eq_cell idx_ext storeIdx_hit storeIdx_miss)
open Cert.Proof.Compact (Tile Sel lane negInf stageIdx cellIdx rowsOf rowOff rowOff_zero)

variable {F : FTy → Type} [FloatOps F]
variable {d : Dev nD} {i : grid0.Coords}
variable {α : Type} {Q : α → sProp (MT nD τ sig (HIx 1) (Elt F) ℕ UU ℕ)}

/-! ## Index vectors -/

/-- There are sixteen lanes. -/
theorem x_lt (x : S16.Idx) : (x 0).val < 16 := (x 0).isLt

/-- A lane's number. -/
theorem lane_toNat (x : S16.Idx) : (lane x).toNat = (x 0).val := by
  have hx := x_lt x
  have e : lane x = BitVec.ofNat 32 (x 0).val := by
    show BitVec.ofNat 32 _ = _
    congr 1
    simp [Fin.isValue]
  rw [e, BitVec.toNat_ofNat]; omega

/-- Where a lane stages its column. -/
theorem stageIdx_toNat {r c : ℕ} (hr : r < 16) (hc : c < 4) (x : S16.Idx) : (stageIdx r c x).toNat = 17 * (16 * c + (x 0).val) + r := by
  have hx := x_lt x
  show ((BitVec.ofNat 32 (16 * c) + lane x) * 17#32 + BitVec.ofNat 32 r).toNat = _
  simp only [BitVec.toNat_add, BitVec.toNat_mul, BitVec.toNat_ofNat, lane_toNat]
  omega

/-- Where a lane overwrites its pick. -/
theorem cellIdx_toNat {b : IVec S16 32} {x : S16.Idx} (hb : (b x).toNat < 64) : (cellIdx b x).toNat = 17 * (b x).toNat + (x 0).val := by
  have hx := x_lt x
  show (b x * 17#32 + lane x).toNat = _
  simp only [BitVec.toNat_add, BitVec.toNat_mul, BitVec.toNat_ofNat, lane_toNat]
  omega

/-- Where a lane's row begins. -/
theorem rowsOf_toNat (t : Fin k0_t2_loop.trips) (x : S16.Idx) : (rowsOf t x).toNat = 1024 * t.val + 64 * (x 0).val := by
  have ht : t.val < 32 := t.isLt
  have hx := x_lt x
  show (((Scf.iv 0#32 1#32 t : BitVec 32) * 16#32 + lane x) * 64#32).toNat = _
  rw [show (Scf.iv 0#32 1#32 t : BitVec 32) = BitVec.ofNat 32 t.val by unfold Scf.iv; simp]
  simp only [BitVec.toNat_add, BitVec.toNat_mul, BitVec.toNat_ofNat, lane_toNat]
  omega

/-- Where a lane writes a column of its row. -/
theorem rowsAt_toNat (t : Fin k0_t2_loop.trips) {b : IVec S16 32} {x : S16.Idx} (hb : (b x).toNat < 64) :
    (addi (rowsOf t) b x).toNat = 1024 * t.val + 64 * (x 0).val + (b x).toNat := by
  have ht : t.val < 32 := t.isLt
  have hx := x_lt x
  show (rowsOf t x + b x).toNat = _
  rw [BitVec.toNat_add, rowsOf_toNat]
  omega

/-! ## The staging steps -/

/-- The staging buffer after the first `n` steps: of the rows and quarters done, each score at its column's and row's cell. -/
def Staged (fi : ℕ → F .f32) (bt : ℕ → F .f32) (n : ℕ) (f : FVec F S1088 .f32) : Prop :=
  ∀ r c l : ℕ, c < 4 → l < 16 → 4 * r + c < n →
    f (cell 1088 (17 * (16 * c + l) + r)) = FloatOps.subf (fi (64 * r + (16 * c + l))) (bt (16 * c + l))

/-- A staging step stages its sixteen scores and keeps the others. -/
theorem stage_next (t : Fin k0_t2_loop.trips) (β : ℕ → Vec F S16 .f32) (fi : FVec F S32768 .f32) (bt : ℕ → F .f32)
    (hβ : ∀ c < 4, ∀ x, β c x = bt (16 * c + (x 0).val)) (n : ℕ) (hr : n / 4 < 16) (hchk : k0_chk1 (stageIdx (n / 4) (n % 4)))
    (f : FVec F S1088 .f32) (hf : Staged (fun p => fi (cell 32768 (1024 * t.val + p))) bt n f) :
    Staged (fun p => fi (cell 32768 (1024 * t.val + p))) bt (n + 1)
      (storeIdx (F := F) (e := .f32) f ![stageIdx (n / 4) (n % 4)] (subf (win 32768 fi (rowOff t (n / 4) (n % 4) 0)) (β (n % 4)))
        (fun _ => 1#1) false (k0_idx1_inb _ hchk)) := by
  have hc : n % 4 < 4 := Nat.mod_lt _ (by decide)
  intro r c l hcl hl hn
  by_cases e : r = n / 4 ∧ c = n % 4
  · obtain ⟨rfl, rfl⟩ := e
    have hlt : 17 * (16 * (n % 4) + l) + n / 4 < 1088 := by omega
    rw [storeIdx_hit _ _ _ _ ?inj _ (cell 16 l : S16.Idx) ?hat]
    · show FloatOps.subf (win 32768 fi (rowOff t (n / 4) (n % 4) 0) _) (β (n % 4) _) = _
      rw [hβ _ hc, rowOff_zero t _ _ hr hc]
      unfold win
      rw [cell_val hl, show 1024 * t.val + 64 * (n / 4) + 16 * (n % 4) + l = 1024 * t.val + (64 * (n / 4) + (16 * (n % 4) + l)) by omega]
    case inj =>
      intro x y hxy
      rw [stageIdx_toNat hr hc, stageIdx_toNat hr hc] at hxy
      exact idx_ext (by omega)
    case hat =>
      rw [stageIdx_toNat hr hc, cell_val hlt, cell_val hl]
  · have hlt : 17 * (16 * c + l) + r < 1088 := by omega
    rw [storeIdx_miss]
    · exact hf r c l hcl hl (by omega)
    · intro x
      have hx := x_lt x
      rw [stageIdx_toNat hr hc, cell_val hlt]
      omega

/-- The staging steps run: the staging buffer holds the scores staged so far. -/
theorem stage_run (t : Fin k0_t2_loop.trips) (β : ℕ → Vec F S16 .f32) (fi : FVec F S32768 .f32) (bt : ℕ → F .f32)
    (hβ : ∀ c < 4, ∀ x, β c x = bt (16 * c + (x 0).val)) (k : Tile F i α) (fuel : ℕ) :
    ∀ (n : ℕ) (h : n + fuel ≤ 64) (f : FVec F S1088 .f32), Staged (fun p => fi (cell 32768 (1024 * t.val + p))) bt n f →
    iprop(pIn d i fi ∗ pSt d i f) ⊢ iprop((∀ f', ⌜Staged (fun p => fi (cell 32768 (1024 * t.val + p))) bt (n + fuel) f'⌝ -∗ pIn d i fi -∗ pSt d i f' -∗ wpt d i k Q)
      -∗ wpt d i (Compact.stage inV stV t β fuel n h k) Q) := by
  induction fuel with
  | zero =>
    intro n h f hf
    iintro ⟨Hi, Hs⟩ Hk
    iapply Hk $$ %f %hf Hi Hs
  | succ fuel ih =>
    intro n h f hf
    have hr : n / 4 < 16 := by omega
    have hc : n % 4 < 4 := Nat.mod_lt _ (by decide)
    have hchk : k0_chk1 (stageIdx (n / 4) (n % 4)) := by
      intro a x
      rw [Fin.eq_zero a]
      have hx := x_lt x
      show (stageIdx (n / 4) (n % 4) x).toNat < 1088
      rw [stageIdx_toNat hr hc]; omega
    unfold Compact.stage Compact.put
    iintro ⟨Hi, Hs⟩ Hk
    iapply (ld_in (f := fi)) $$ Hi; iintro Hi
    iapply (chk hchk)
    iapply (scatter_st (f := f)) $$ Hs; iintro Hs
    iapply (ih (n + 1) _ _ (stage_next t β fi bt hβ n hr hchk f hf)) $$ [Hi Hs]
    · isplitl [Hi]; · iexact Hi
      iexact Hs
    iintro %f' %hf' Hi Hs
    rw [show n + 1 + fuel = n + (fuel + 1) by omega] at hf'
    iapply Hk $$ %f' %hf' Hi Hs

/-! ## The scan, a round, the rounds -/

/-- Lane `x`'s score in column `j`. -/
def score (f : FVec F S1088 .f32) (x : S16.Idx) (j : ℕ) : F .f32 := f (cell 1088 (17 * j + (x 0).val))

/-- The scan runs: every lane holds its row's best among the columns scanned. -/
theorem scan_run (f : FVec F S1088 .f32) (k : Vec F S16 .f32 → IVec S16 32 → Tile F i α) (fuel : ℕ) :
    ∀ (j : ℕ) (h : j + fuel ≤ 64) (m : Vec F S16 .f32) (b : IVec S16 32),
    (∀ x, m x = (Row.best (score f x) j).1 ∧ (b x).toNat = (Row.best (score f x) j).2) →
    pSt d i f ⊢ iprop((∀ m' b', ⌜∀ x, m' x = (Row.best (score f x) (j + fuel)).1 ∧ (b' x).toNat = (Row.best (score f x) (j + fuel)).2⌝ -∗ pSt d i f -∗ wpt d i (k m' b') Q)
      -∗ wpt d i (Compact.scan stV fuel j h m b k) Q) := by
  induction fuel with
  | zero =>
    intro j h m b hm
    iintro Hs Hk
    iapply Hk $$ %m %b %hm Hs
  | succ fuel ih =>
    intro j h m b hm
    unfold Compact.scan
    iintro Hs Hk
    iapply (ld_st (f := f)) $$ Hs; iintro Hs
    iapply (ih (j + 1) _ _ _ ?st) $$ Hs
    case st =>
      intro x
      obtain ⟨hm1, hb1⟩ := hm x
      show (if FloatOps.cmpf .ogt (score f x j) (m x) = 1 then score f x j else m x) = _
        ∧ (if FloatOps.cmpf .ogt (score f x j) (m x) = 1 then BitVec.ofNat 32 j else b x).toNat = _
      unfold Row.best
      rw [← hm1]
      split
      · refine ⟨rfl, ?_⟩
        exact (BitVec.toNat_ofNat ..).trans (Nat.mod_eq_of_lt (by omega))
      · exact ⟨hm1, hb1⟩
    iintro %m' %b' %hm' Hs
    rw [show j + 1 + fuel = j + (fuel + 1) by omega] at hm'
    iapply Hk $$ %m' %b' %hm' Hs

/-- A round's picks are the lanes' best scores, and its store leaves the scores of the next round. -/
theorem round_next (f : FVec F S1088 .f32) (m : Vec F S16 .f32) (b : IVec S16 32)
    (hm : ∀ x, m x = (Row.best (score f x) 64).1 ∧ (b x).toNat = (Row.best (score f x) 64).2) (h2 : k0_chk65 (cellIdx b)) :
    (∀ x, (m x, (b x).toNat) = Row.best (score f x) 64)
      ∧ ∀ x, ∀ j < 64, score (storeIdx (F := F) (e := .f32) f ![cellIdx b] negInf (fun _ => 1#1) false (k0_idx65_inb _ h2)) x j = Row.next (score f x) j := by
  have hb : ∀ x, (b x).toNat < 64 := fun x => by rw [(hm x).2]; exact Row.best_lt64 _
  refine ⟨fun x => Prod.ext (hm x).1 (hm x).2, fun x j hj => ?_⟩
  have hx := x_lt x
  have hlt : 17 * j + (x 0).val < 1088 := by omega
  by_cases e : j = (b x).toNat
  · refine Eq.trans ?_ (if_pos (e.trans (hm x).2)).symm
    exact storeIdx_hit _ _ _ _ (fun y z hyz => by
      have hy := x_lt y
      have hz := x_lt z
      rw [cellIdx_toNat (hb y), cellIdx_toNat (hb z)] at hyz
      exact idx_ext (by omega)) _ x (by rw [cellIdx_toNat (hb x), cell_val hlt, e])
  · refine Eq.trans ?_ (if_neg fun h => e (h.trans (hm x).2.symm)).symm
    refine storeIdx_miss _ _ _ _ _ fun y => ?_
    have hy := x_lt y
    rw [cellIdx_toNat (hb y), cell_val hlt]
    intro h
    have hxy : x = y := idx_ext (by omega)
    subst hxy
    omega

/-- A round runs: every lane picks its row's best and overwrites it. -/
theorem round_run (f : FVec F S1088 .f32) (k : Sel F → Tile F i α) :
    pSt d i f ⊢ iprop((∀ (s : Sel F) f', ⌜(∀ x, (s.val x, (s.col x).toNat) = Row.best (score f x) 64) ∧ ∀ x, ∀ j < 64, score f' x j = Row.next (score f x) j⌝
        -∗ pSt d i f' -∗ wpt d i (k s) Q)
      -∗ wpt d i (Compact.round stV k) Q) := by
  unfold Compact.round
  iintro Hs Hk
  iapply (scan_run f _ 64 0 (by omega) _ _ fun x => ⟨rfl, rfl⟩) $$ Hs
  iintro %m %b %hm Hs
  have hb : ∀ x, (b x).toNat < 64 := fun x => by rw [(hm x).2]; exact Row.best_lt64 _
  have h1 : k0_chk73 b := by
    intro a x; rw [Fin.eq_zero a]; exact hb x
  have h2 : k0_chk65 (cellIdx b) := by
    intro a x
    rw [Fin.eq_zero a]
    have hx := x_lt x
    have := hb x
    show (cellIdx b x).toNat < 1088
    rw [cellIdx_toNat (hb x)]; omega
  iapply (chk h1)
  iapply (chk h2)
  iapply (scatter_st (f := f)) $$ Hs; iintro Hs
  iapply Hk $$ %⟨m, b, h1⟩ %_ %(round_next f m b (hm := hm) h2) Hs

/-- Lane `x` of a list of selections. -/
def selAt (l : List (Sel F)) (x : S16.Idx) : List (F .f32 × ℕ) := l.map fun s => (s.val x, (s.col x).toNat)

/-- The rounds run: every lane holds its row's picks. -/
theorem rounds_run (n : ℕ) : ∀ (f : FVec F S1088 .f32) (k : List (Sel F) → Tile F i α),
    pSt d i f ⊢ iprop((∀ l f', ⌜∀ x, selAt l x = Row.sels n (score f x)⌝ -∗ pSt d i f' -∗ wpt d i (k l) Q)
      -∗ wpt d i (Compact.rounds stV n k) Q) := by
  induction n with
  | zero =>
    intro f k
    iintro Hs Hk
    iapply Hk $$ %([]) %_ %(fun x => rfl) Hs
  | succ n ih =>
    intro f k
    unfold Compact.rounds
    iintro Hs Hk
    iapply (round_run f _) $$ Hs
    iintro %s %f1 %h1 Hs
    iapply (ih f1 _) $$ Hs
    iintro %l %f2 %h2 Hs
    have hsl : ∀ x, selAt (s :: l) x = Row.sels (n + 1) (score f x) := by
      intro x
      show (s.val x, (s.col x).toNat) :: selAt l x = Row.best (score f x) 64 :: Row.sels n (Row.next (score f x))
      rw [h1.1 x, h2 x, Row.sels_congr n (h1.2 x)]
    iapply Hk $$ %_ %_ %hsl Hs

/-! ## The gathers, the exponentials, the scatters -/

/-- Lane `x` of a list of values and columns. -/
def laneAt (l : List (FVec F S16 .f32 × IVec S16 32)) (x : S16.Idx) : List (F .f32 × ℕ) := l.map fun s => (s.1 x, (s.2 x).toNat)

/-- The gathers run: every pick has its column's beta added back. -/
theorem gathers_run (fb : FVec F S64 .f32) : ∀ (l : List (Sel F)) (k : List (FVec F S16 .f32 × IVec S16 32) → Tile F i α),
    pBeta d i fb ⊢ iprop((∀ r, ⌜∀ x, laneAt r x = Row.addBack (fun j => fb (cell 64 j)) (selAt l x)⌝ -∗ pBeta d i fb -∗ wpt d i (k r) Q)
      -∗ wpt d i (Compact.gathers betaV l k) Q) := by
  intro l
  induction l with
  | nil =>
    intro k
    iintro Hs Hk
    iapply Hk $$ %([]) %(fun x => rfl) Hs
  | cons s l ih =>
    intro k
    unfold Compact.gathers
    iintro Hs Hk
    iapply (gather_beta (f := fb)) $$ Hs; iintro Hs
    iapply (ih _) $$ Hs
    iintro %r %hr Hs
    have hh : ∀ x, laneAt ((addf s.val (pickAt fb s.col), s.col) :: r) x = Row.addBack (fun j => fb (cell 64 j)) (selAt (s :: l) x) :=
      fun x => congrArg (List.cons _) (hr x)
    iapply Hk $$ %_ %hh Hs

/-- A fold of vectors, lane by lane. -/
theorem foldl_lane (op : FVec F S16 .f32 → FVec F S16 .f32 → FVec F S16 .f32) (op' : F .f32 → F .f32 → F .f32) (h : ∀ a b x, op a b x = op' (a x) (b x))
    (x : S16.Idx) (l : List (FVec F S16 .f32)) : ∀ a, l.foldl op a x = (l.map fun v => v x).foldl op' (a x) := by
  induction l with
  | nil => intro a; rfl
  | cons b l ih => intro a; rw [List.foldl_cons, ih, h]; rfl

/-- The same for a fold that starts from the first vector. -/
theorem fold1_lane (op : FVec F S16 .f32 → FVec F S16 .f32 → FVec F S16 .f32) (op' : F .f32 → F .f32 → F .f32) (h : ∀ a b x, op a b x = op' (a x) (b x))
    (x : S16.Idx) (l : List (FVec F S16 .f32)) : Compact.fold1 op l x = Row.fold1 op' (l.map fun v => v x) := by
  cases l with
  | nil => rfl
  | cons a l => exact foldl_lane op op' h x l a

/-- The values of a list of values and columns, lane by lane. -/
theorem fst_lane (l : List (FVec F S16 .f32 × IVec S16 32)) (x : S16.Idx) : ((l.map Prod.fst).map fun v => v x) = (laneAt l x).map Prod.fst := by
  unfold laneAt; rw [List.map_map, List.map_map]; rfl

/-- The exponentials, lane by lane. -/
theorem exps_lane (l : List (FVec F S16 .f32 × IVec S16 32)) (x : S16.Idx) : laneAt (Compact.expsOf l) x = Row.exps (laneAt l x) := by
  unfold Compact.expsOf Row.exps
  rw [← fst_lane, ← fold1_lane maximumf FloatOps.maximumf (fun _ _ _ => rfl)]
  unfold laneAt
  rw [List.map_map, List.map_map]; rfl

/-- The rows written after a list of quotients is scattered into the group's rows, `g` before. -/
def Scattered (t : Fin k0_t2_loop.trips) (den : FVec F S16 .f32) (l : List (FVec F S16 .f32 × IVec S16 32)) (g g' : FVec F S32768 .f32) : Prop :=
  (∀ x : S16.Idx, ∀ j < 64, g' (cell 32768 (1024 * t.val + 64 * (x 0).val + j))
      = Row.stores (den x) (laneAt l x) (fun j => g (cell 32768 (1024 * t.val + 64 * (x 0).val + j))) j)
    ∧ ∀ n < 32768, (n < 1024 * t.val ∨ 1024 * t.val + 1024 ≤ n) → g' (cell 32768 n) = g (cell 32768 n)

/-- The scatter of one quotient before the rest. -/
theorem scatter_next (t : Fin k0_t2_loop.trips) (den : FVec F S16 .f32) (e : FVec F S16 .f32 × IVec S16 32) (l : List (FVec F S16 .f32 × IVec S16 32))
    (g g' : FVec F S32768 .f32) (hb : ∀ x, (e.2 x).toNat < 64) (h1 : k0_chk81 (addi (rowsOf t) e.2))
    (hg : Scattered t den l (storeIdx (F := F) (e := .f32) g ![addi (rowsOf t) e.2] (divf e.1 den) (fun _ => 1#1) false (k0_idx81_inb _ h1)) g') :
    Scattered t den (e :: l) g g' := by
  have ht : t.val < 32 := t.isLt
  refine ⟨fun x j hj => ?_, fun n hn hout => ?_⟩
  · rw [hg.1 x j hj]
    refine Row.stores_congr _ _ _ ?_
    have hx := x_lt x
    have hlt : 1024 * t.val + 64 * (x 0).val + j < 32768 := by omega
    by_cases hj' : j = (e.2 x).toNat
    · refine Eq.trans ?_ (if_pos hj').symm
      exact storeIdx_hit _ _ _ _ (fun y z hyz => by
        have hy := hb y
        have hz := hb z
        rw [rowsAt_toNat t hy, rowsAt_toNat t hz] at hyz
        exact idx_ext (by omega)) _ x (by rw [rowsAt_toNat t (hb x), cell_val hlt, hj'])
    · refine Eq.trans ?_ (if_neg hj').symm
      refine storeIdx_miss _ _ _ _ _ fun y => ?_
      have hy := hb y
      rw [rowsAt_toNat t hy, cell_val hlt]
      intro h
      have hxy : x = y := idx_ext (by omega)
      subst hxy
      omega
  · rw [hg.2 n hn hout]
    refine storeIdx_miss _ _ _ _ _ fun y => ?_
    have hy := x_lt y
    have := hb y
    rw [rowsAt_toNat t (hb y), cell_val hn]
    omega

/-- The scatters run: the quotients lie in the group's rows. -/
theorem scatters_run (t : Fin k0_t2_loop.trips) (den : FVec F S16 .f32) (k : Tile F i α) :
    ∀ (l : List (FVec F S16 .f32 × IVec S16 32)), (∀ x, ∀ p ∈ laneAt l x, p.2 < 64) → ∀ (g : FVec F S32768 .f32),
    pOut d i g ⊢ iprop((∀ g', ⌜Scattered t den l g g'⌝ -∗ pOut d i g' -∗ wpt d i k Q)
      -∗ wpt d i (Compact.scatters outV (rowsOf t) den l k) Q) := by
  have ht : t.val < 32 := t.isLt
  intro l
  induction l with
  | nil =>
    intro _ g
    iintro Hs Hk
    iapply Hk $$ %g %⟨fun x j _ => rfl, fun n _ _ => rfl⟩ Hs
  | cons e l ih =>
    intro hl g
    have hb : ∀ x, (e.2 x).toNat < 64 := fun x => hl x _ List.mem_cons_self
    have h1 : k0_chk81 (addi (rowsOf t) e.2) := by
      intro a x
      rw [Fin.eq_zero a]
      have hx := x_lt x
      have := hb x
      show (addi (rowsOf t) e.2 x).toNat < 32768
      rw [rowsAt_toNat t (hb x)]; omega
    unfold Compact.scatters
    iintro Hs Hk
    iapply (chk h1)
    iapply (scatter_out (f := g)) $$ Hs; iintro Hs
    iapply (ih (fun x p hp => hl x p (List.mem_cons_of_mem _ hp)) _) $$ Hs
    iintro %g' %hg Hs
    iapply Hk $$ %g' %(scatter_next t den e l g g' hb h1 hg) Hs

end Cert.Proof.Run
-- ==== Proof.Body.lean ====
/-
  THE KERNEL'S BODY WITH ITS GROUP LOOP WRITTEN SHORT: the printed body is this program.
-/
module

public import proofs.«01_k».proof.Proof.Compact

@[expose] public section

noncomputable section

namespace Cert.Proof.Compact

open Cert.KernelIdeal Cert.KernelIdeal.Facts₀
open Idealize.ShloMosaic Idealize.SL.Sem

variable {F : FTy → Type} [FloatOps F]

section
variable {i : grid0.Coords} {α : Type}

/-- Sixteen elements of the rows written set to zero (after a load the kernel does not use). -/
def clear1 (outV : Memref sig .scVector .vmem S32768 .f32) (t : Fin k0_t1_loop.trips) (r : Fin 4) (k : Tile F i α) : Tile F i α :=
  .op (.load outV (Rect.unit (s := S32768) (k0_off2 t (BitVec.ofNat 32 (16 * r.val))) S16.size (k0_off2_inb t r)).toLoadRect (View.loadsAt_vmem h_S16)) fun _ =>
  .op (.store outV (Rect.unit (s := S32768) (k0_off2 t (BitVec.ofNat 32 (16 * r.val))) S16.size (k0_off2_inb t r)) zeros Finset.univ
    (View.stores_vmem_bits_univ h_S16 rfl) (.inl rfl)) fun _ => k

/-- One row of the rows written set to zero. -/
def clear (outV : Memref sig .scVector .vmem S32768 .f32) (t : Fin k0_t1_loop.trips) : Tile F i (BitVec 32) :=
  clear1 outV t 0 <| clear1 outV t 1 <| clear1 outV t 2 <| clear1 outV t 3 <| .ret 0#32

end

/-- The body: the two copies in, beta's four vectors, the rows written cleared, the groups, the copy out. -/
def body (i : grid0.Coords) (arg2 : Memref sig .scVector .hbm S1048576 .f32) (arg3 : Memref sig .scVector .hbm S64 .f32) (harg3 : arg3.IsWhole)
    (arg4 : Memref sig .scVector .hbm S1048576 .f32) (arg5 : Memref sig .scVector .vmem S32768 .f32) (harg5 : arg5.IsWhole)
    (arg6 : Memref sig .scVector .vmem S32768 .f32) (harg6 : arg6.IsWhole) (arg7 : Memref sig .scVector .vmem S64 .f32) (harg7 : arg7.IsWhole)
    (arg8 : Memref sig .scVector .vmem S1088 .f32) (s0 s1 s2 : DmaSems sig S_) : Tile F i PUnit := do
  Prog.lift (.enqueueDma (arg2.slice (Rect.unit (s := S1048576) (k0_off1 i) S32768.size (k0_off1_inb i)) (fun _ => rfl)) (.here arg5) (.dma s0.sem)
    (View.wordExact_bits rfl) harg5.wordExact ⟨Or.inl rfl, trivial⟩)
  Prog.lift (.waitDma2 s0.sem (arg2.slice (Rect.unit (s := S1048576) (k0_off1 i) S32768.size (k0_off1_inb i)) (fun _ => rfl)) arg5
    (View.wordExact_bits rfl) harg5.wordExact)
  Prog.lift (.enqueueDma arg3 (.here arg7) (.dma s1.sem) harg3.wordExact harg7.wordExact ⟨Or.inl rfl, trivial⟩)
  Prog.lift (.waitDma2 s1.sem arg3 arg7 harg3.wordExact harg7.wordExact)
  let v6 ← Prog.lift (.load arg7 (Rect.unit (s := S64) ![0] S16.size inb_S64_S16_0).toLoadRect (View.loadsAt_vmem h_S16))
  let v7 ← Prog.lift (.load arg7 (Rect.unit (s := S64) ![16] S16.size inb_S64_S16_16).toLoadRect (View.loadsAt_vmem h_S16))
  let v8 ← Prog.lift (.load arg7 (Rect.unit (s := S64) ![32] S16.size inb_S64_S16_32).toLoadRect (View.loadsAt_vmem h_S16))
  let v9 ← Prog.lift (.load arg7 (Rect.unit (s := S64) ![48] S16.size inb_S64_S16_48).toLoadRect (View.loadsAt_vmem h_S16))
  let _ ← Scf.Loop.for k0_t1_loop k0_t1_ok 0#32 fun t _ => clear arg6 t
  let _ ← Scf.Loop.for k0_t2_loop k0_t2_ok 0#32 fun t _ => trip arg5 arg6 arg7 arg8 t (pick4 v6 v7 v8 v9)
  Prog.lift (.enqueueDma arg6 (.here (arg4.slice (Rect.unit (s := S1048576) (k0_off1 i) S32768.size (k0_off1_inb i)) (fun _ => rfl))) (.dma s2.sem)
    harg6.wordExact (View.wordExact_bits rfl) ⟨Or.inl rfl, trivial⟩)
  Prog.lift (.waitDma2 s2.sem arg6 (arg4.slice (Rect.unit (s := S1048576) (k0_off1 i) S32768.size (k0_off1_inb i)) (fun _ => rfl))
    harg6.wordExact (View.wordExact_bits rfl))
  pure ⟨⟩

set_option maxRecDepth 1000000
set_option maxHeartbeats 0

/-- The printed body is the short one: the same effects in the same order. -/
theorem body_eq (i : grid0.Coords) (arg2 : Memref sig .scVector .hbm S1048576 .f32) (harg2 : arg2.IsWhole) (arg3 : Memref sig .scVector .hbm S64 .f32)
    (harg3 : arg3.IsWhole) (arg4 : Memref sig .scVector .hbm S1048576 .f32) (harg4 : arg4.IsWhole) (arg5 : Memref sig .scVector .vmem S32768 .f32)
    (harg5 : arg5.IsWhole) (arg6 : Memref sig .scVector .vmem S32768 .f32) (harg6 : arg6.IsWhole) (arg7 : Memref sig .scVector .vmem S64 .f32)
    (harg7 : arg7.IsWhole) (arg8 : Memref sig .scVector .vmem S1088 .f32) (harg8 : arg8.IsWhole) (s0 s1 s2 : DmaSems sig S_) :
    cc0__qb_gating_body (F := F) i arg2 harg2 arg3 harg3 arg4 harg4 arg5 harg5 arg6 harg6 arg7 harg7 arg8 harg8 s0 s1 s2
      = body i arg2 arg3 harg3 arg4 arg5 harg5 arg6 harg6 arg7 harg7 arg8 s0 s1 s2 := rfl

end Cert.Proof.Compact
-- ==== Proof.Trip.lean ====
/-
  A TRIP OF EACH LOOP: the prep loop's trip clears one row of the rows written; the group loop's trip turns sixteen of its rows into the rows
  of the result.
-/
module

public import proofs.«01_k».proof.Proof.Steps
public import proofs.«01_k».proof.Proof.Body

@[expose] public section

noncomputable section

namespace Cert.Proof.Run

open Cert.KernelIdeal Cert.KernelIdeal.Facts₀

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Cert.Proof.Row (cell cell_val eq_cell idx_ext)
open Cert.Proof.Compact (Tile Sel rowsOf)

variable {F : FTy → Type} [FloatOps F]
variable {d : Dev nD} {i : grid0.Coords}
variable {α : Type} {Q : α → sProp (MT nD τ sig (HIx 1) (Elt F) ℕ UU ℕ)}

/-! ## Clearing -/

/-- A program that ends. -/
theorem done {a : α} : Q a ⊢ wpt d i (.ret a) Q := le_wp_ret _ _ _ a Q

/-- A load of the rows written whose value is not used. -/
theorem ld_out {r : Rect S32768} {hl} {k : Tile F i α} {g : FVec F S32768 .f32} :
    pOut d i g ⊢ iprop((pOut d i g -∗ wpt d i k Q) -∗ wpt d i (.op (.load outV r.toLoadRect hl) fun _ => k) Q) :=
  wp_load 𝒱₀ (thr d i) none Set.univ (m := outV) (S := Finset.univ) (hl := hl) (k := fun _ => k) (Finset.subset_univ _)

/-- A store to the rows written. -/
theorem st_out {r : Rect S32768} {v : r.shape.Idx → F .f32} {hx hm} {k : Tile F i α} {g : FVec F S32768 .f32} :
    pOut d i g ⊢ iprop((pOut d i (View.write (Elt F) (outV.access r) g v Finset.univ) -∗ wpt d i k Q)
      -∗ wpt d i (.op (.store outV r v Finset.univ hx hm) fun _ => k) Q) :=
  wp_store 𝒱₀ (thr d i) none Set.univ (m := outV) (S := Finset.univ) (Mk := Finset.univ) (w := v) (hx := hx) (hm := hm)
    (k := fun _ => k) (f := g) (Q := Q) (Finset.subset_univ _)

/-- The first `n` elements are zero. -/
def Cleared (n : ℕ) (g : FVec F S32768 .f32) : Prop := ∀ p < n, g (cell 32768 p) = Row.zero

/-- Clearing sixteen elements runs. -/
theorem clear1_run (t : Fin k0_t1_loop.trips) (r : Fin 4) (k : Tile F i α) (g : FVec F S32768 .f32) (hg : Cleared (64 * t.val + 16 * r.val) g) :
    pOut d i g ⊢ iprop((∀ g', ⌜Cleared (64 * t.val + 16 * (r.val + 1)) g'⌝ -∗ pOut d i g' -∗ wpt d i k Q)
      -∗ wpt d i (Compact.clear1 outV t r k) Q) := by
  have ht : t.val < 512 := t.isLt
  have hr : r.val < 4 := r.isLt
  have hoff : k0_off2 t (BitVec.ofNat 32 (16 * r.val)) 0 = 64 * t.val + 16 * r.val := by rw [Gen.k0_off2_eq]; rfl
  unfold Compact.clear1
  iintro Hs Hk
  iapply (ld_out (g := g)) $$ Hs; iintro Hs
  iapply (st_out (g := g)) $$ Hs; iintro Hs
  generalize hw : View.write (Elt F) (outV.access (Rect.unit (s := S32768) (k0_off2 t (BitVec.ofNat 32 (16 * r.val))) S16.size (k0_off2_inb t r)))
    g Compact.zeros Finset.univ = g'
  have hc : Cleared (64 * t.val + 16 * (r.val + 1)) g' := by
    intro p hp
    rw [← hw]
    by_cases e : p < 64 * t.val + 16 * r.val
    · rw [View.write_of_not_mem]
      · exact hg p e
      · rw [show (outV.access (Rect.unit (s := S32768) (k0_off2 t (BitVec.ofNat 32 (16 * r.val))) S16.size (k0_off2_inb t r))).setOn Finset.univ
            = (Rect.unit (s := S32768) (k0_off2 t (BitVec.ofNat 32 (16 * r.val))) S16.size (k0_off2_inb t r)).set from View.set_slice_whole _ _,
          Rect.mem_set_unit]
        intro h
        have h0 := (h 0).1
        rw [hoff, cell_val (by omega)] at h0
        omega
    · have hx : p - (64 * t.val + 16 * r.val) < 16 := by omega
      have he : (outV.access (Rect.unit (s := S32768) (k0_off2 t (BitVec.ofNat 32 (16 * r.val))) S16.size (k0_off2_inb t r))).emb
          (cell 16 (p - (64 * t.val + 16 * r.val)) : S16.Idx) = cell 32768 p := by
        refine eq_cell _ ?_
        show k0_off2 t (BitVec.ofNat 32 (16 * r.val)) 0 + 1 * (cell 16 (p - (64 * t.val + 16 * r.val)) 0).val = p
        rw [hoff, cell_val hx]; omega
      rw [← he]
      exact View.write_emb_of_mem _ _ (Finset.mem_univ _)
  iapply Hk $$ %g' %hc Hs

/-- A trip of the clearing loop runs: sixty-four more elements are zero. -/
theorem clear_run (t : Fin k0_t1_loop.trips) (g : FVec F S32768 .f32) (hg : Cleared (64 * t.val) g) :
    pOut d i g ⊢ wpt d i (Compact.clear outV t) fun _ => iprop(∃ g', ⌜Cleared (64 * (t.val + 1)) g'⌝ ∗ pOut d i g') := by
  unfold Compact.clear
  iintro Hs
  iapply (clear1_run t 0 _ g hg) $$ Hs
  iintro %g1 %h1 Hs
  iapply (clear1_run t 1 _ g1 h1) $$ Hs
  iintro %g2 %h2 Hs
  iapply (clear1_run t 2 _ g2 h2) $$ Hs
  iintro %g3 %h3 Hs
  iapply (clear1_run t 3 _ g3 h3) $$ Hs
  iintro %g4 %h4 Hs
  iapply (done (a := 0#32))
  iexists g4
  isplitr
  · ipureintro; exact fun p hp => h4 p (by show p < 64 * t.val + 16 * (3 + 1); omega)
  · iexact Hs

/-! ## A group -/

/-- The rows written after the first `n` rows are done: those hold the result's rows, the others are zero. -/
def Rows (fi : FVec F S32768 .f32) (fb : FVec F S64 .f32) (n : ℕ) (g : FVec F S32768 .f32) : Prop :=
  ∀ R < 512, ∀ j < 64, g (cell 32768 (64 * R + j))
    = if R < n then Row.out (fun j => fi (cell 32768 (64 * R + j))) (fun j => fb (cell 64 j)) j else Row.zero

/-- All cleared is no row done. -/
theorem rows_zero (fi : FVec F S32768 .f32) (fb : FVec F S64 .f32) (g : FVec F S32768 .f32) (hg : Cleared 32768 g) : Rows fi fb 0 g :=
  fun R hR j hj => (hg _ (by omega)).trans (if_neg (Nat.not_lt_zero R)).symm

/-- What a group's staging, rounds, gathers and scatters leave is the rows with sixteen more done. -/
theorem rows_next (t : Fin k0_t2_loop.trips) (fi : FVec F S32768 .f32) (fb : FVec F S64 .f32) (g g' : FVec F S32768 .f32)
    (hg : Rows fi fb (16 * t.val) g) (f : FVec F S1088 .f32)
    (hf : Staged (fun p => fi (cell 32768 (1024 * t.val + p))) (fun j => fb (cell 64 j)) 64 f)
    (l : List (Sel F)) (hl : ∀ x, selAt l x = Row.sels 8 (score f x)) (r : List (FVec F S16 .f32 × IVec S16 32))
    (hr : ∀ x, laneAt r x = Row.addBack (fun j => fb (cell 64 j)) (selAt l x))
    (hs : Scattered t (Compact.fold1 addf ((Compact.expsOf r).map Prod.fst)) (Compact.expsOf r) g g') : Rows fi fb (16 * (t.val + 1)) g' := by
  have ht : t.val < 32 := t.isLt
  intro R hR j hj
  by_cases hin : 16 * t.val ≤ R ∧ R < 16 * (t.val + 1)
  · obtain ⟨h1, h2⟩ := hin
    have hx : R - 16 * t.val < 16 := by omega
    have e : ∀ j, 64 * R + j = 1024 * t.val + 64 * ((cell 16 (R - 16 * t.val) : S16.Idx) 0).val + j := by
      intro j; rw [cell_val hx]; omega
    rw [if_pos h2, e j, hs.1 _ j hj, fold1_lane (F := F) addf FloatOps.addf (fun _ _ _ => rfl), fst_lane, exps_lane, hr, hl]
    have hsc : ∀ j < 64, score f (cell 16 (R - 16 * t.val)) j = FloatOps.subf (fi (cell 32768 (64 * R + j))) (fb (cell 64 j)) := by
      intro j hj
      have h := hf (R - 16 * t.val) (j / 16) (j % 16) (by omega) (by omega) (by omega)
      rw [show 16 * (j / 16) + j % 16 = j by omega] at h
      show f (cell 1088 (17 * j + _)) = _
      rw [cell_val hx, h]
      show FloatOps.subf (fi (cell 32768 (1024 * t.val + (64 * (R - 16 * t.val) + j)))) _ = _
      rw [show 1024 * t.val + (64 * (R - 16 * t.val) + j) = 64 * R + j by omega]
    rw [Row.sels_congr 8 hsc]
    unfold Row.out Row.spread
    refine Row.stores_congr (F := F) _ _ _ ?_
    show g (cell 32768 _) = (Row.zero : F .f32)
    rw [← e j, hg R hR j hj, if_neg (by omega)]
  · rw [hs.2 (64 * R + j) (by omega) (by omega), hg R hR j hj]
    by_cases h : R < 16 * t.val
    · rw [if_pos h, if_pos (by omega)]
    · rw [if_neg h, if_neg (by omega)]

/-- A trip of the group loop runs: sixteen more rows are done. -/
theorem trip_run (t : Fin k0_t2_loop.trips) (β : ℕ → Vec F S16 .f32) (fi : FVec F S32768 .f32) (fb : FVec F S64 .f32)
    (hβ : ∀ c < 4, ∀ x, β c x = fb (cell 64 (16 * c + (x 0).val))) (g : FVec F S32768 .f32) (hg : Rows fi fb (16 * t.val) g) (s : FVec F S1088 .f32) :
    iprop(pIn d i fi ∗ pOut d i g ∗ pBeta d i fb ∗ pSt d i s) ⊢ wpt d i (Compact.trip inV outV betaV stV t β) fun _ =>
      iprop(pIn d i fi ∗ (∃ g', ⌜Rows fi fb (16 * (t.val + 1)) g'⌝ ∗ pOut d i g') ∗ pBeta d i fb ∗ ∃ s', pSt d i s') := by
  unfold Compact.trip
  iintro ⟨Hi, Ho, Hb, Hs⟩
  iapply (stage_run t β fi (fun j => fb (cell 64 j)) hβ _ 64 0 _ s (fun _ _ _ _ _ h => absurd h (Nat.not_lt_zero _))) $$ [Hi Hs]
  · isplitl [Hi]; · iexact Hi
    iexact Hs
  iintro %f %hf Hi Hs
  iapply (rounds_run 8 f _) $$ Hs
  iintro %l %f' %hl Hs
  iapply (gathers_run fb l _) $$ Hb
  iintro %r %hr Hb
  have hlt : ∀ x, ∀ p ∈ laneAt (Compact.expsOf r) x, p.2 < 64 := by
    intro x p hp
    rw [exps_lane, hr, hl] at hp
    obtain ⟨q, hq, rfl⟩ := List.mem_map.mp hp
    obtain ⟨q', hq', rfl⟩ := List.mem_map.mp hq
    exact Row.sels_lt 8 _ q' hq'
  iapply (scatters_run t _ _ (Compact.expsOf r) hlt g) $$ Ho
  iintro %g' %hg' Ho
  have hR := rows_next t fi fb g g' hg f (by simpa using hf) l hl r hr hg'
  iapply (done (a := 0#32))
  isplitl [Hi]; · iexact Hi
  isplitl [Ho]
  · iexists g'
    isplitr
    · ipureintro; exact hR
    · iexact Ho
  isplitl [Hb]; · iexact Hb
  iexists f'
  iexact Hs

end Cert.Proof.Run
-- ==== Proof.Tile.lean ====
/-
  A VECTOR SUBCORE'S WHOLE BODY: its slice of the rows and beta copied in, the rows cleared, the groups, its slice of the result copied out.
-/
module

public import proofs.«01_k».proof.Proof.Trip

@[expose] public section

noncomputable section

namespace Cert.Proof.Run

open Cert.KernelIdeal Cert.KernelIdeal.Facts₀

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Row (cell cell_val eq_cell idx_ext)
open Cert.Proof.Compact (Tile Sel rowsOf)

variable {F : FTy → Type}

local notation "𝕄" => MT nD τ sig (HIx 1) (Elt F) ℕ UU ℕ

section
variable [FloatOps F]
variable {d : Dev nD} {i : grid0.Coords}
variable {α : Type} {Q : α → sProp (MT nD τ sig (HIx 1) (Elt F) ℕ UU ℕ)}

/-- A copy and the wait for it, of elements of memory the subcore holds at a share into elements it holds whole. -/
theorem copy_run {sp sp' : Space} {s : Shape} {src : Memref sig .scVector sp s .f32} {dst : Memref sig .scVector sp' s .f32} {sem : DmaSem sig}
    {h1 h2 h3 h4 h5} {k : Tile F i α} {q : PosShare TreeShare} {fs : Buf (Elt F) (src.view.loc (thr d i))}
    {Sd : Finset (Idx (dst.view.loc (thr d i)))} {fd : Buf (Elt F) (dst.view.loc (thr d i))}
    {O : CellTallies nD τ sig (HIx 1)} {W : Waits sig (HIx 1)} (hs : 0 < s.numel) (hSd : dst.view.set ⊆ Sd) :
    iprop(((src.view.loc (thr d i) ↦[src.view.set]{q} fs) ∗ (dst.view.loc (thr d i) ↦[Sd]{fullShare} fd) ∗ semVal (thr d i, .dma sem) 0)
        ∗ owes (thr d i) O W ∗ Transfers.MayWaits (thr d i) none O)
      ⊢ iprop((iprop(((dst.view.loc (thr d i) ↦[Sd]{fullShare} (dst.view.write (Elt F) fd (src.view.read (Elt F) fs) Finset.univ))
              ∗ (src.view.loc (thr d i) ↦[src.view.set]{q} fs)) ∗ semVal (thr d i, .dma sem) 0 ∗ owes (thr d i) O (insert (SemLoc.dma sem, none) W))
            -∗ wpt d i k Q)
          -∗ wpt d i (.op (.enqueueDma src (.here dst) (.dma sem) h1 h2 h3) fun _ => .op (.waitDma2 sem src dst h4 h5) fun _ => k) Q) := by
  iintro ⟨H, HO, Hmw⟩ Hk
  iapply (Transfers.wp_dmaLocal countersEmb 𝒱₀ (thr d i) none none (dst.view.amount (.dma sem)) rfl (View.amount_pos _ _ hs) hSd) $$ H
  iintro Hf
  iapply (Transfers.wp_waitLocalO countersEmb 𝒱₀ (thr d i) none none rfl (O := O) (W := W)) $$ [Hf HO Hmw]
  · isplitl [Hf]; · iexact Hf
    isplitl [HO]; · iexact HO
    iapply (Transfers.MayWaits.elim (.dma sem)); iexact Hmw
  iintro H
  iapply Hk
  iexact H

end

/-! ## The pieces -/

/-- The arrays as a subcore names them. -/
abbrev xV : Memref sig .scVector .hbm S1048576 .f32 := Memref.whole main_v0_scv
/-- Beta and the flat result, as the body names them. -/
abbrev bV : Memref sig .scVector .hbm S64 .f32 := Memref.whole main_arg1_scv
abbrev oV : Memref sig .scVector .hbm S1048576 .f32 := Memref.whole main_v1_scv

/-- Where the call's three arrays lie. -/
abbrev xLoc (d : Dev nD) : Loc nD τ sig := (SparseCore.T d).loc main_v0
abbrev bLoc (d : Dev nD) : Loc nD τ sig := (SparseCore.T d).loc main_arg1
abbrev oLoc (d : Dev nD) : Loc nD τ sig := (SparseCore.T d).loc main_v1

/-- The slice a subcore reads and writes. -/
abbrev pc (i : grid0.Coords) : Rect S1048576 := Rect.unit (s := S1048576) (k0_off1 i) S32768.size (k0_off1_inb i)
/-- The subcore's slices of the flat argument and of the flat result. -/
abbrev xPc (i : grid0.Coords) : Memref sig .scVector .hbm S32768 .f32 := xV.slice (pc i) (fun _ => rfl)
abbrev oPc (i : grid0.Coords) : Memref sig .scVector .hbm S32768 .f32 := oV.slice (pc i) (fun _ => rfl)

/-- Its number, and its elements. -/
def wid (i : grid0.Coords) : ℕ := 2 * (i 1).val + (i 0).val
/-- The elements of slice `w`. -/
def pieceAt (w : ℕ) : Finset S1048576.Idx := Finset.univ.filter fun n => (n 0).val / 32768 = w

/-- There are thirty-two slices. -/
theorem wid_lt (i : grid0.Coords) : wid i < 32 := by
  have h0 : (i 0).val < 2 := (i 0).isLt
  have h1 : (i 1).val < 16 := (i 1).isLt
  unfold wid; omega

/-- Where a subcore's slice begins. -/
theorem off_zero (i : grid0.Coords) : k0_off1 i 0 = 32768 * wid i := by
  rw [Gen.k0_off1_eq]
  show 65536 * (i 1).val + 32768 * (i 0).val = _
  unfold wid; omega

/-- A subcore's slice is the elements of its number. -/
theorem pc_set (i : grid0.Coords) : (pc i).set = pieceAt (wid i) := by
  ext n
  rw [Rect.mem_set_unit]
  have ho := off_zero i
  constructor
  · intro h
    obtain ⟨h1, h2⟩ := h 0
    have h2' : (n 0).val < k0_off1 i 0 + 32768 := h2
    exact Finset.mem_filter.mpr ⟨Finset.mem_univ _, by omega⟩
  · intro h a
    obtain rfl : a = 0 := Fin.eq_zero a
    have h' := (Finset.mem_filter.mp h).2
    show k0_off1 i 0 ≤ (n 0).val ∧ (n 0).val < k0_off1 i 0 + 32768
    omega

/-- So is its slice of the flat argument. -/
theorem xPc_set (i : grid0.Coords) : (xPc i).view.set = pieceAt (wid i) := (View.set_slice_whole _ _).trans (pc_set i)
/-- And its slice of the flat result. -/
theorem oPc_set (i : grid0.Coords) : (oPc i).view.set = pieceAt (wid i) := (View.set_slice_whole _ _).trans (pc_set i)

/-- An element of the slice, in the whole array. -/
theorem pc_emb (i : grid0.Coords) (p : S32768.Idx) : (pc i).emb p = cell 1048576 (32768 * wid i + (p 0).val) := by
  refine eq_cell _ ?_
  show k0_off1 i 0 + 1 * (p 0).val = _
  rw [off_zero, Nat.one_mul]

section
variable [FloatOps F]

/-- The result: every row the row's result. -/
def res (x : FVec F S1048576 .f32) (b : FVec F S64 .f32) : FVec F S1048576 .f32 := fun n =>
  Row.out (fun j => x (cell 1048576 (64 * ((n 0).val / 64) + j))) (fun j => b (cell 64 j)) ((n 0).val % 64)

/-- The slice copied in. -/
def sliceOf (i : grid0.Coords) (x : FVec F S1048576 .f32) : FVec F S32768 .f32 := fun p => x (cell 1048576 (32768 * wid i + (p 0).val))

/-- What the copy in leaves: the slice. -/
theorem in_val (i : grid0.Coords) (x : FVec F S1048576 .f32) (f : FVec F S32768 .f32) :
    inV.view.write (Elt F) f ((xPc i).view.read (Elt F) x) Finset.univ = sliceOf i x := by
  refine (View.write_whole_univ (Val := Elt F) cc0_scratch0 f _).trans ?_
  funext p
  exact congrArg x (pc_emb i p)

/-- What the copy of beta leaves: beta. -/
theorem beta_val (b f : FVec F S64 .f32) : betaV.view.write (Elt F) f (bV.view.read (Elt F) b) Finset.univ = b :=
  View.write_whole_univ (Val := Elt F) cc0_scratch2 f b

/-- The slice copied out holds the result's rows. -/
theorem out_val (i : grid0.Coords) (x : FVec F S1048576 .f32) (b : FVec F S64 .f32) (o : FVec F S1048576 .f32) (g : FVec F S32768 .f32)
    (hg : Rows (sliceOf i x) b 512 g) : ∀ n ∈ pieceAt (wid i), (oPc i).view.write (Elt F) o (outV.view.read (Elt F) g) Finset.univ n = res x b n := by
  intro n hn
  have hw := wid_lt i
  have hn' : (n 0).val / 32768 = wid i := (Finset.mem_filter.mp hn).2
  have hp : (n 0).val - 32768 * wid i < 32768 := by omega
  have e : (oPc i).view.emb (cell 32768 ((n 0).val - 32768 * wid i)) = n := by
    refine (pc_emb i _).trans (eq_cell n ?_).symm
    rw [cell_val hp]; omega
  conv_lhs => rw [← e]
  refine (View.write_emb_of_mem _ _ (Finset.mem_univ _)).trans ?_
  show g (cell 32768 ((n 0).val - 32768 * wid i)) = _
  have hR : ((n 0).val - 32768 * wid i) / 64 < 512 := by omega
  have h := hg _ hR (((n 0).val - 32768 * wid i) % 64) (Nat.mod_lt _ (by decide))
  rw [if_pos hR, Nat.div_add_mod] at h
  rw [h]
  unfold res
  rw [show ((n 0).val - 32768 * wid i) % 64 = (n 0).val % 64 by omega]
  refine congrFun (Row.out_congr fun j hj => ?_) _
  show x (cell 1048576 (32768 * wid i + ((cell 32768 (64 * (((n 0).val - 32768 * wid i) / 64) + j)) 0).val)) = _
  rw [cell_val (by omega)]
  congr 2
  omega

end

/-! ## What a subcore's storage is made of -/

section
variable (d : Dev nD) (i : grid0.Coords)

/-- The three copies' counters. -/
abbrev cell0 : GSem nD τ sig := (thr d i, .dma cc0_scoped0.sem)
abbrev cell1 : GSem nD τ sig := (thr d i, .dma cc0_scoped1.sem)
abbrev cell2 : GSem nD τ sig := (thr d i, .dma cc0_scoped2.sem)

/-- The three transfers' counters are among the subcore's own. -/
theorem sems_split : (ownSems0 (thr d i) : sProp 𝕄)
    = iprop(semVal (cell0 d i) 0 ∗ semVal (cell1 d i) 0 ∗ semVal (cell2 d i) 0
        ∗ bigSep ((((ownCells (thr d i)).erase (cell0 d i)).erase (cell1 d i)).erase (cell2 d i)) fun g => semVal g 0) := by
  have m0 : cell0 d i ∈ ownCells (thr d i) := mem_ownCells.mpr ⟨rfl, by show (SemLoc.dma cc0_scoped0.sem : SemLoc sig).isScoped .scVector = true; decide⟩
  have m1 : cell1 d i ∈ ownCells (thr d i) := mem_ownCells.mpr ⟨rfl, by show (SemLoc.dma cc0_scoped1.sem : SemLoc sig).isScoped .scVector = true; decide⟩
  have m2 : cell2 d i ∈ ownCells (thr d i) := mem_ownCells.mpr ⟨rfl, by show (SemLoc.dma cc0_scoped2.sem : SemLoc sig).isScoped .scVector = true; decide⟩
  have n10 : cell1 d i ≠ cell0 d i := fun e => absurd (congrArg Prod.snd e) (show (SemLoc.dma cc0_scoped1.sem : SemLoc sig) ≠ .dma cc0_scoped0.sem by decide)
  have n20 : cell2 d i ≠ cell0 d i := fun e => absurd (congrArg Prod.snd e) (show (SemLoc.dma cc0_scoped2.sem : SemLoc sig) ≠ .dma cc0_scoped0.sem by decide)
  have n21 : cell2 d i ≠ cell1 d i := fun e => absurd (congrArg Prod.snd e) (show (SemLoc.dma cc0_scoped2.sem : SemLoc sig) ≠ .dma cc0_scoped1.sem by decide)
  unfold SparseCore.Cfg.ownSems0
  rw [SparseCore.bigSep_erase' m0, SparseCore.bigSep_erase' (Finset.mem_erase.mpr ⟨n10, m1⟩),
    SparseCore.bigSep_erase' (Finset.mem_erase.mpr ⟨n21, Finset.mem_erase.mpr ⟨n20, m2⟩⟩)]

/-- A buffer of the subcore's own. -/
abbrev own (b : Ref sig .scVector) : DevRef τ sig := (thr d i).2.devRef b

/-- The four scratch buffers are among the subcore's own. -/
theorem bufs_split : (ownBufs (thr d i) : sProp 𝕄)
    = iprop((∃ f, pIn d i f) ∗ (∃ f, pOut d i f) ∗ (∃ f, pBeta d i f) ∗ (∃ f, pSt d i f)
        ∗ bigSep (((((ownRefs (τ := τ) (thr d i).2).erase (own d i cc0_scratch0)).erase (own d i cc0_scratch1)).erase
            (own d i cc0_scratch2)).erase (own d i cc0_scratch3)) fun b => iprop(∃ f, ((d, b) : Loc nD τ sig) ↦{fullShare} f)) := by
  have m0 : own d i cc0_scratch0 ∈ ownRefs (τ := τ) (thr d i).2 := SparseCore.Cfg.mem_ownRefs_of_owner rfl
  have m1 : own d i cc0_scratch1 ∈ ownRefs (τ := τ) (thr d i).2 := SparseCore.Cfg.mem_ownRefs_of_owner rfl
  have m2 : own d i cc0_scratch2 ∈ ownRefs (τ := τ) (thr d i).2 := SparseCore.Cfg.mem_ownRefs_of_owner rfl
  have m3 : own d i cc0_scratch3 ∈ ownRefs (τ := τ) (thr d i).2 := SparseCore.Cfg.mem_ownRefs_of_owner rfl
  have ne : ∀ {b b' : Ref sig .scVector}, b ≠ b' → own d i b ≠ own d i b' := fun h e => h (Proc.devRef_injective _ e)
  have n10 : own d i cc0_scratch1 ≠ own d i cc0_scratch0 := ne (by decide)
  have n20 : own d i cc0_scratch2 ≠ own d i cc0_scratch0 := ne (by decide)
  have n21 : own d i cc0_scratch2 ≠ own d i cc0_scratch1 := ne (by decide)
  have n30 : own d i cc0_scratch3 ≠ own d i cc0_scratch0 := ne (by decide)
  have n31 : own d i cc0_scratch3 ≠ own d i cc0_scratch1 := ne (by decide)
  have n32 : own d i cc0_scratch3 ≠ own d i cc0_scratch2 := ne (by decide)
  unfold SparseCore.Cfg.ownBufs
  refine (SparseCore.bigSep_erase' m0).trans ?_
  rw [SparseCore.bigSep_erase' (Finset.mem_erase.mpr ⟨n10, m1⟩),
    SparseCore.bigSep_erase' (Finset.mem_erase.mpr ⟨n21, Finset.mem_erase.mpr ⟨n20, m2⟩⟩),
    SparseCore.bigSep_erase' (Finset.mem_erase.mpr ⟨n32, Finset.mem_erase.mpr ⟨n31, Finset.mem_erase.mpr ⟨n30, m3⟩⟩⟩)]
  rfl

/-! ## The body -/

variable [FloatOps F]

/-- The clearing loop's invariant. -/
def inv1 (n : ℕ) (_ : BitVec 32) : sProp 𝕄 := iprop(∃ g, ⌜Cleared (64 * n) g⌝ ∗ pOut d i g)

/-- The group loop's invariant: the rows of the groups done are the result's. -/
def inv2 (x : FVec F S1048576 .f32) (b : FVec F S64 .f32) (n : ℕ) (_ : BitVec 32) : sProp 𝕄 :=
  iprop(pIn d i (sliceOf i x) ∗ (∃ g, ⌜Rows (sliceOf i x) b (16 * n) g⌝ ∗ pOut d i g) ∗ pBeta d i b ∗ ∃ s, pSt d i s)

/-- The four vectors of beta hold its sixty-four elements. -/
theorem beta4 (b : FVec F S64 .f32) : ∀ c < 4, ∀ x, Compact.pick4 (win 64 b 0) (win 64 b 16) (win 64 b 32) (win 64 b 48) c x = b (cell 64 (16 * c + (x 0).val)) := by
  intro c hc x
  match c, hc with
  | 0, _ => rfl
  | 1, _ => rfl
  | 2, _ => rfl
  | 3, _ => rfl

/-- What a subcore is handed and hands back: its slice of the rows, a share of beta, its slice of the result. -/
abbrev share (q : PosShare TreeShare) (w : ℕ) (x : FVec F S1048576 .f32) (b : FVec F S64 .f32) (o : FVec F S1048576 .f32) : sProp 𝕄 :=
  iprop((xLoc d ↦[pieceAt w]{fullShare} x) ∗ (bLoc d ↦{q} b) ∗ oLoc d ↦[pieceAt w]{fullShare} o)

omit [FloatOps F] in
/-- The slice of the flat argument, as the copy holds it. -/
theorem pts_x (x : FVec F S1048576 .f32) :
    ((xPc i).view.loc (thr d i) ↦[(xPc i).view.set]{fullShare} x : sProp 𝕄) = (xLoc d ↦[pieceAt (wid i)]{fullShare} x) := by rw [xPc_set]
omit [FloatOps F] in
/-- The slice of the flat result, as the copy holds it. -/
theorem pts_o (o : FVec F S1048576 .f32) :
    ((oPc i).view.loc (thr d i) ↦[(oPc i).view.set]{fullShare} o : sProp 𝕄) = (oLoc d ↦[pieceAt (wid i)]{fullShare} o) := by rw [oPc_set]
omit [FloatOps F] in
/-- Beta, as the copy holds it. -/
theorem pts_b (q : PosShare TreeShare) (b : FVec F S64 .f32) :
    (bV.view.loc (thr d i) ↦[bV.view.set]{q} b : sProp 𝕄) = (bLoc d ↦{q} b) := by simp only [Memref.view_whole, View.set_whole]
omit [FloatOps F] in
/-- The rows written, as the copy holds them. -/
theorem pts_out (g : FVec F S32768 .f32) :
    (outV.view.loc (thr d i) ↦[outV.view.set]{fullShare} g : sProp 𝕄) = pOut d i g := by simp only [Memref.view_whole, View.set_whole]

/-- The body runs: from the subcore's slice and its share of beta it leaves the slice's rows of the result. -/
theorem body_run (x : FVec F S1048576 .f32) (b : FVec F S64 .f32) (o : FVec F S1048576 .f32) (q : PosShare TreeShare)
    (O : CellTallies nD τ sig (HIx 1)) (W : Waits sig (HIx 1)) :
    iprop(Transfers.MayWaits (thr d i) (none : HIx 1) O ∗ share d q (wid i) x b o
        ∗ ((∃ f, pIn d i f) ∗ (∃ f, pOut d i f) ∗ (∃ f, pBeta d i f) ∗ (∃ f, pSt d i f))
        ∗ (semVal (cell0 d i) 0 ∗ semVal (cell1 d i) 0 ∗ semVal (cell2 d i) 0) ∗ owes (thr d i) O W)
      ⊢ wpt d i (Compact.body i xV bV (Memref.isWhole_whole _) oV inV (Memref.isWhole_whole _) outV (Memref.isWhole_whole _) betaV
          (Memref.isWhole_whole _) stV cc0_scoped0 cc0_scoped1 cc0_scoped2) fun _ =>
        iprop(share d q (wid i) x b (res x b)
          ∗ ((∃ f, pIn d i f) ∗ (∃ f, pOut d i f) ∗ (∃ f, pBeta d i f) ∗ (∃ f, pSt d i f))
          ∗ (semVal (cell0 d i) 0 ∗ semVal (cell1 d i) 0 ∗ semVal (cell2 d i) 0)
          ∗ ∃ W', ⌜∀ p ∈ W', p ∈ W ∨ p.2 = none⌝ ∗ owes (thr d i) O W') := by
  unfold Compact.body
  simp only [Prog.lift, Prog.bind_op, Prog.bind_ret, Prog.pure_eq_ret]
  iintro ⟨#Hmw, ⟨Hx, Hb, Ho⟩, ⟨⟨%f0, Hin⟩, ⟨%f1, Hout⟩, ⟨%f2, Hbe⟩, ⟨%f3, Hst⟩⟩, ⟨H0, H1, H2⟩, HO⟩
  -- the rows in
  ihave Hx := (Entails.of_eq (pts_x d i x).symm) $$ Hx
  iapply (copy_run (src := xPc i) (dst := inV) (q := fullShare) (fs := x) (fd := f0) (O := O) (W := W) (by decide) (Finset.subset_univ _)) $$ [Hx Hin H0 HO]
  · isplitl [Hx Hin H0]
    · isplitl [Hx]; · iexact Hx
      isplitl [Hin]; · iexact Hin
      iexact H0
    isplitl [HO]; · iexact HO
    iexact Hmw
  iintro ⟨⟨Hin, Hx⟩, H0, HO⟩
  rw [in_val]
  ihave Hx := (Entails.of_eq (pts_x d i x)) $$ Hx
  -- beta in
  ihave Hb := (Entails.of_eq (pts_b d i q b).symm) $$ Hb
  iapply (copy_run (src := bV) (dst := betaV) (q := q) (fs := b) (fd := f2) (O := O) (by decide) (Finset.subset_univ _)) $$ [Hb Hbe H1 HO]
  · isplitl [Hb Hbe H1]
    · isplitl [Hb]; · iexact Hb
      isplitl [Hbe]; · iexact Hbe
      iexact H1
    isplitl [HO]; · iexact HO
    iexact Hmw
  iintro ⟨⟨Hbe, Hb⟩, H1, HO⟩
  rw [beta_val]
  ihave Hb := (Entails.of_eq (pts_b d i q b)) $$ Hb
  iapply (ld_beta (f := b)) $$ Hbe; iintro Hbe
  iapply (ld_beta (f := b)) $$ Hbe; iintro Hbe
  iapply (ld_beta (f := b)) $$ Hbe; iintro Hbe
  iapply (ld_beta (f := b)) $$ Hbe; iintro Hbe
  -- the rows written cleared
  unfold wpt
  sl_for (inv1 d i) $$ [Hout]
  case region =>
    intro t _
    unfold inv1
    iintro ⟨%g, %hg, Hout⟩
    iapply (clear_run t g hg) $$ Hout
  · unfold inv1
    iexists f1
    isplitr
    · ipureintro; exact fun p hp => absurd hp (Nat.not_lt_zero p)
    · iexact Hout
  iintro %_ HI
  unfold inv1
  icases HI with ⟨%g, %hg, Hout⟩
  -- the groups
  sl_for (inv2 d i x b) $$ [Hin Hout Hbe Hst]
  case region =>
    intro t _
    unfold inv2
    iintro ⟨Hin, ⟨%g, %hg, Hout⟩, Hbe, %s, Hst⟩
    iapply (trip_run t _ (sliceOf i x) b (beta4 b) g hg s) $$ [Hin Hout Hbe Hst]
    isplitl [Hin]; · iexact Hin
    isplitl [Hout]; · iexact Hout
    isplitl [Hbe]; · iexact Hbe
    iexact Hst
  · unfold inv2
    isplitl [Hin]; · iexact Hin
    isplitl [Hout]
    · iexists g
      isplitr
      · ipureintro; exact rows_zero _ _ g hg
      · iexact Hout
    isplitl [Hbe]; · iexact Hbe
    iexists f3; iexact Hst
  iintro %_ HI
  unfold inv2
  icases HI with ⟨Hin, ⟨%g2, %hg2, Hout⟩, Hbe, %s2, Hst⟩
  -- the rows out
  ihave Ho := (Entails.of_eq (pts_o d i o).symm) $$ Ho
  ihave Hout := (Entails.of_eq (pts_out d i g2).symm) $$ Hout
  iapply (copy_run (src := outV) (dst := oPc i) (q := fullShare) (fs := g2) (fd := o) (O := O) (by decide) (Finset.Subset.refl _)) $$ [Ho Hout H2 HO]
  · isplitl [Ho Hout H2]
    · isplitl [Hout]; · iexact Hout
      isplitl [Ho]; · iexact Ho
      iexact H2
    isplitl [HO]; · iexact HO
    iexact Hmw
  iintro ⟨⟨Ho, Hout⟩, H2, HO⟩
  ihave Hout := (Entails.of_eq (pts_out d i g2)) $$ Hout
  ihave Ho := (Entails.of_eq ((pts_o d i _).trans (pointsTo_congr (out_val i x b o g2 hg2)))) $$ Ho
  iapply (done (a := PUnit.unit))
  isplitl [Hx Hb Ho]
  · isplitl [Hx]; · iexact Hx
    isplitl [Hb]; · iexact Hb
    iexact Ho
  isplitl [Hin Hout Hbe Hst]
  · isplitl [Hin]; · iexists _; iexact Hin
    isplitl [Hout]; · iexists _; iexact Hout
    isplitl [Hbe]; · iexists _; iexact Hbe
    iexists _; iexact Hst
  isplitl [H0 H1 H2]
  · isplitl [H0]; · iexact H0
    isplitl [H1]; · iexact H1
    iexact H2
  iexists insert (SemLoc.dma cc0_scoped2.sem, none) (insert (SemLoc.dma cc0_scoped1.sem, none) (insert (SemLoc.dma cc0_scoped0.sem, none) W))
  isplitr
  · ipureintro
    intro p hp
    rcases Finset.mem_insert.mp hp with rfl | hp
    · exact .inr rfl
    rcases Finset.mem_insert.mp hp with rfl | hp
    · exact .inr rfl
    rcases Finset.mem_insert.mp hp with rfl | hp
    · exact .inr rfl
    · exact .inl hp
  · iexact HO

/-- The printed body on a subcore, from what the launch hands it. -/
theorem tile_body (hF : (K (F := F)).Facts) (x : FVec F S1048576 .f32) (b : FVec F S64 .f32) (o : FVec F S1048576 .f32) (q : PosShare TreeShare)
    (O : CellTallies nD τ sig (HIx 1)) (W : Waits sig (HIx 1)) (hO : ∀ g, O g none = 0) :
    iprop(levAts (K (F := F)).L (K (F := F)).lev ∗ emp ∗ share d q (wid i) x b o
        ∗ scopedBufs (thr d i) ∗ scopedSems0 (thr d i) ∗ owes (thr d i) O W)
      ⊢ wpt d i (cc0__qb_gating_body i xV (Memref.isWhole_whole _) bV (Memref.isWhole_whole _) oV (Memref.isWhole_whole _) inV
          (Memref.isWhole_whole _) outV (Memref.isWhole_whole _) betaV (Memref.isWhole_whole _) stV (Memref.isWhole_whole _)
          cc0_scoped0 cc0_scoped1 cc0_scoped2) fun _ =>
        iprop(share d q (wid i) x b (res x b) ∗ scopedBufs (thr d i) ∗ scopedSems0 (thr d i)
          ∗ ∃ W', ⌜∀ p ∈ W', p ∈ W ∨ p.2 = none⌝ ∗ owes (thr d i) O W') := by
  rw [Compact.body_eq]
  rw [(K (F := F)).scopedBufs_V hF d _ _, SparseCore.Cfg.scopedSems0_V (Val := Elt F) d _ _, sems_split, bufs_split]
  iintro ⟨#Hlv, -, Hsh, ⟨Hin, Hout, Hbe, Hst, Hbufs⟩, ⟨H0, H1, H2, Hsems⟩, HO⟩
  ihave #Hmw := ((K (F := F)).mayWaits_none (thr := thr d i) hO) $$ Hlv
  iapply (wp_wand_r frame _ _)
  isplitl [Hsh Hin Hout Hbe Hst H0 H1 H2 HO]
  · iapply (body_run d i x b o q O W)
    isplitr; · iexact Hmw
    isplitl [Hsh]; · iexact Hsh
    isplitl [Hin Hout Hbe Hst]
    · isplitl [Hin]; · iexact Hin
      isplitl [Hout]; · iexact Hout
      isplitl [Hbe]; · iexact Hbe
      iexact Hst
    isplitl [H0 H1 H2]
    · isplitl [H0]; · iexact H0
      isplitl [H1]; · iexact H1
      iexact H2
    iexact HO
  iintro %_ ⟨Hsh, ⟨Hin, Hout, Hbe, Hst⟩, ⟨H0, H1, H2⟩, HO⟩
  isplitl [Hsh]; · iexact Hsh
  isplitl [Hin Hout Hbe Hst Hbufs]
  · isplitl [Hin]; · iexact Hin
    isplitl [Hout]; · iexact Hout
    isplitl [Hbe]; · iexact Hbe
    isplitl [Hst]; · iexact Hst
    iexact Hbufs
  isplitl [H0 H1 H2 Hsems]
  · isplitl [H0]; · iexact H0
    isplitl [H1]; · iexact H1
    isplitl [H2]; · iexact H2
    iexact Hsems
  iexact HO

end

end Cert.Proof.Run
-- ==== Proof.Launch.lean ====
/-
  THE LAUNCH: the arrays dealt to the two SparseCores' thirty-two subcores and gathered again, @main, and the whole program's run, with the
  value of its result.
-/
module

public import proofs.«01_k».proof.Proof.Tile
public import proofs.«01_k».proof.Proof.Gen.KernelIdeal

@[expose] public section

noncomputable section

namespace Cert.Proof.Run

open Cert.KernelIdeal Cert.KernelIdeal.Facts₀

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type}

local notation "𝕄" => MT nD τ sig (HIx 1) (Elt F) ℕ UU ℕ

/-- The handshakes' semaphores are distinct and outlast a call, and no buffer is shared among a SparseCore's subcores. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The arrays in thirty-two shares -/

/-- The share of beta the subcore `i` of SparseCore `c` reads at. -/
def part (c : Fin 2) (i : Fin 16) : PosShare TreeShare := Transfers.dealOf (Transfers.dealOf fullShare Finset.univ c) Finset.univ i

/-- A SparseCore's elements: those of its sixteen subcores. -/
def coreSet (c : Fin 2) : Finset S1048576.Idx := Finset.univ.biUnion fun i : Fin 16 => pieceAt (2 * i.val + c.val)

/-- Which elements are a SparseCore's. -/
theorem mem_coreSet {c : Fin 2} {n : S1048576.Idx} : n ∈ coreSet c ↔ (n 0).val / 32768 % 2 = c.val := by
  have hn : (n 0).val < 1048576 := (n 0).isLt
  unfold coreSet pieceAt
  rw [Finset.mem_biUnion]
  constructor
  · rintro ⟨i, -, h⟩
    have := (Finset.mem_filter.mp h).2
    omega
  · intro h
    refine ⟨⟨(n 0).val / 32768 / 2, by omega⟩, Finset.mem_univ _, Finset.mem_filter.mpr ⟨Finset.mem_univ _, ?_⟩⟩
    show _ = 2 * ((n 0).val / 32768 / 2) + c.val
    omega

/-- Every element is one of a SparseCore's. -/
theorem cores_cover (n : S1048576.Idx) : ∃ c ∈ (Finset.univ : Finset (Fin 2)), n ∈ coreSet c :=
  ⟨⟨(n 0).val / 32768 % 2, Nat.mod_lt _ (by decide)⟩, Finset.mem_univ _, mem_coreSet.mpr rfl⟩

/-- No element is two SparseCores'. -/
theorem cores_disjoint : ∀ c ∈ (Finset.univ : Finset (Fin 2)), ∀ c' ∈ (Finset.univ : Finset (Fin 2)), c ≠ c' → Disjoint (coreSet c) (coreSet c') := by
  intro c _ c' _ h
  refine Finset.disjoint_left.mpr fun n h1 h2 => h (Fin.ext ?_)
  exact (mem_coreSet.mp h1).symm.trans (mem_coreSet.mp h2)

/-- No element is two subcores'. -/
theorem tiles_disjoint (c : Fin 2) : ∀ i ∈ (Finset.univ : Finset (Fin 16)), ∀ i' ∈ (Finset.univ : Finset (Fin 16)), i ≠ i'
    → Disjoint (pieceAt (2 * i.val + c.val)) (pieceAt (2 * i'.val + c.val)) := by
  intro i _ i' _ h
  refine Finset.disjoint_left.mpr fun n h1 h2 => h (Fin.ext ?_)
  have e1 := (Finset.mem_filter.mp h1).2
  have e2 := (Finset.mem_filter.mp h2).2
  omega

/-- The flat argument whole is the subcores' slices of it. -/
theorem x_deal (d : Dev nD) (f : FVec F S1048576 .f32) : ((xLoc d ↦{fullShare} f) : sProp 𝕄)
    = bigSep Finset.univ fun c : Fin 2 => bigSep Finset.univ fun i : Fin 16 => xLoc d ↦[pieceAt (2 * i.val + c.val)]{fullShare} f := by
  have h1 := pointsTo_biUnion (Ix := HIx 1) (Val := Elt F) (Name := ℕ) (U := UU) (Lvl := ℕ) (ℓ := xLoc d) (q := fullShare) (f := f)
    Finset.univ coreSet cores_disjoint
  refine Eq.trans (congrArg (fun A => (xLoc d ↦[A]{fullShare} f : sProp 𝕄)) (Eq.symm ?_)) (h1.trans (bigSep_congr fun c _ => ?_))
  · exact Finset.eq_univ_iff_forall.mpr fun n => Finset.mem_biUnion.mpr (cores_cover n)
  have h2 := pointsTo_biUnion (Ix := HIx 1) (Val := Elt F) (Name := ℕ) (U := UU) (Lvl := ℕ) (ℓ := xLoc d) (q := fullShare) (f := f)
    Finset.univ (fun i : Fin 16 => pieceAt (2 * i.val + c.val)) (tiles_disjoint c)
  refine Eq.trans (congrArg (fun A => (xLoc d ↦[A]{fullShare} f : sProp 𝕄)) (Finset.ext fun n => ?_)) h2
  exact Finset.mem_biUnion.trans Finset.mem_biUnion.symm

/-- The flat result whole is the subcores' slices of it. -/
theorem o_deal (d : Dev nD) (f : FVec F S1048576 .f32) : ((oLoc d ↦{fullShare} f) : sProp 𝕄)
    = bigSep Finset.univ fun c : Fin 2 => bigSep Finset.univ fun i : Fin 16 => oLoc d ↦[pieceAt (2 * i.val + c.val)]{fullShare} f := by
  have h1 := pointsTo_biUnion (Ix := HIx 1) (Val := Elt F) (Name := ℕ) (U := UU) (Lvl := ℕ) (ℓ := oLoc d) (q := fullShare) (f := f)
    Finset.univ coreSet cores_disjoint
  refine Eq.trans (congrArg (fun A => (oLoc d ↦[A]{fullShare} f : sProp 𝕄)) (Eq.symm ?_)) (h1.trans (bigSep_congr fun c _ => ?_))
  · exact Finset.eq_univ_iff_forall.mpr fun n => Finset.mem_biUnion.mpr (cores_cover n)
  have h2 := pointsTo_biUnion (Ix := HIx 1) (Val := Elt F) (Name := ℕ) (U := UU) (Lvl := ℕ) (ℓ := oLoc d) (q := fullShare) (f := f)
    Finset.univ (fun i : Fin 16 => pieceAt (2 * i.val + c.val)) (tiles_disjoint c)
  refine Eq.trans (congrArg (fun A => (oLoc d ↦[A]{fullShare} f : sProp 𝕄)) (Finset.ext fun n => ?_)) h2
  exact Finset.mem_biUnion.trans Finset.mem_biUnion.symm

/-- Beta whole is the subcores' read shares of it. -/
theorem b_deal (d : Dev nD) (f : FVec F S64 .f32) : ((bLoc d ↦{fullShare} f) : sProp 𝕄)
    = bigSep Finset.univ fun c : Fin 2 => bigSep Finset.univ fun i : Fin 16 => bLoc d ↦{part c i} f := by
  refine (Transfers.pointsTo_deal (Finset.univ : Finset (Fin 2)) Finset.univ_nonempty fullShare).trans (bigSep_congr fun c _ => ?_)
  exact Transfers.pointsTo_deal (Finset.univ : Finset (Fin 16)) Finset.univ_nonempty _

/-- The three arrays whole are the thirty-two subcores' shares. -/
theorem shares (d : Dev nD) (x : FVec F S1048576 .f32) (b : FVec F S64 .f32) (o : FVec F S1048576 .f32) :
    (iprop((xLoc d ↦{fullShare} x) ∗ (bLoc d ↦{fullShare} b) ∗ oLoc d ↦{fullShare} o) : sProp 𝕄)
      = bigSep Finset.univ fun c : Fin 2 => bigSep Finset.univ fun i : Fin 16 => share d (part c i) (2 * i.val + c.val) x b o := by
  rw [x_deal, b_deal, o_deal]
  unfold share
  simp only [bigSep_sep']

/-! ## The payloads -/

variable [FloatOps F]
variable (m : (ℓ : Loc nD τ sig) → Buf (Elt F) ℓ) (ρ : Dev nD → PrngReg)

/-- The five arrays of @main: the two arguments, the flat argument, the flat result, the result. -/
abbrev a' : DevRef τ sig := Proc.devRef .tc (main_arg0 : Ref sig .tc)
abbrev b' : DevRef τ sig := Proc.devRef .tc (main_arg1 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)

/-- The two reshapes of @main. -/
abbrev opIn : HloOp τ sig (Elt F) := StableHlo.reshape main_arg0 main_v0 rfl shapeCasts_S16384x64_S1048576
abbrev opOut : HloOp τ sig (Elt F) := StableHlo.reshape main_v1 main_v2 rfl shapeCasts_S1048576_S16384x64

/-- The arrays at the launch, after the first reshape, after the call, after the second. -/
def V0 (d : Dev nD) : Valuation τ sig (Elt F) := fun b => m (d, b)
def V1 (d : Dev nD) : Valuation τ sig (Elt F) := (opIn (F := F)).result (V0 m d)
/-- What the call reads (the flat argument, beta), what its result array held, and what it leaves there. -/
abbrev xs (d : Dev nD) : FVec F S1048576 .f32 := V1 m d x'
abbrev bs (d : Dev nD) : FVec F S64 .f32 := V1 m d b'
abbrev os (d : Dev nD) : FVec F S1048576 .f32 := V1 m d o'
abbrev rs (d : Dev nD) : FVec F S1048576 .f32 := res (xs m d) (bs m d)
def V2 (d : Dev nD) : Valuation τ sig (Elt F) := Function.update (V1 m d) o' (rs m d)
def V3 (d : Dev nD) : Valuation τ sig (Elt F) := (opOut (F := F)).result (V2 m d)

/-- What a subcore of a SparseCore takes, and what it gives back. -/
def goes (d : Dev nD) (c : Fin 2) (i : Fin 16) : sProp 𝕄 := share d (part c i) (2 * i.val + c.val) (xs m d) (bs m d) (os m d)
def back (d : Dev nD) (c : Fin 2) (i : Fin 16) : sProp 𝕄 := share d (part c i) (2 * i.val + c.val) (xs m d) (bs m d) (rs m d)

instance (d : Dev nD) (c : Fin 2) (i : Fin 16) : BI.Storable (upEmb : UEmb _ 𝕄) (goes m d c i) := by unfold goes; infer_instance
instance (d : Dev nD) (c : Fin 2) (i : Fin 16) : BI.Storable (upEmb : UEmb _ 𝕄) (back m d c i) := by unfold back; infer_instance

/-- What the handshakes carry: to a SparseCore and back its subcores' shares, to a subcore and back its own. -/
def P : (K (F := F)).Pay (nD := nD) (Val := Elt F) (Name := ℕ) (U := UU) where
  st := fun | 0, d, c => bigSep Finset.univ fun i : Fin 16 => goes m d c i
  dn := fun | 0, d, c => bigSep Finset.univ fun i : Fin 16 => back m d c i
  go := fun | 0, d, c, i => goes m d c i
  td := fun | 0, d, c, i => back m d c i
  x := fun _ _ => iprop(emp)

/-- All of it can be stored in an invariant. -/
instance P_storable : (P (F := F) m).IsStorable where
  st q d c := by match q with | 0 => unfold P; infer_instance
  dn q d c := by match q with | 0 => unfold P; infer_instance
  go q d c i := by match q with | 0 => unfold P; infer_instance
  td q d c i := by match q with | 0 => unfold P; infer_instance

/-! ## The subcores' obligation, and the split of a SparseCore's share among its subcores -/

/-- A subcore's grid point. -/
def coordsV (c : Fin (grid0.bound 0)) (s : Fin (grid0.bound 1)) : grid0.Coords :=
  fun | 0 => c | 1 => s | ⟨_ + 2, h⟩ => absurd h (Nat.not_lt.2 (Nat.le_add_left _ _))

/-- A subcore runs the printed body at its grid point. -/
theorem defs₀_vector (c : Fin τ.nSC) (s : Fin τ.nSub) : defs₀ (F := F) (.scVector c s) 0 ()
    = SparseCore.onTile hcore0 hsub0 (fun c s => cc0__qb_gating_body (coordsV c s) xV (Memref.isWhole_whole _) bV (Memref.isWhole_whole _) oV
        (Memref.isWhole_whole _) inV (Memref.isWhole_whole _) outV (Memref.isWhole_whole _) betaV (Memref.isWhole_whole _) stV (Memref.isWhole_whole _)
        cc0_scoped0 cc0_scoped1 cc0_scoped2) ⟨⟩ c s := rfl

omit [FloatOps F] in
/-- Waits on no call are waits on no call or on this one. -/
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every subcore, handed its share, hands it back with its rows of the result. -/
theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) facts (xs m d) (bs m d) (os m d) (part c i) O W hO).trans (wp_mono frame _ _ fun _ => obl_post)

/-- A SparseCore's share is its subcores' shares, going and coming. -/
theorem vecSplit : (K (F := F)).VecSplit' (P m) 0 := by
  intro d c
  show (bigSep Finset.univ fun i : Fin 16 => goes m d c i) ⊢ |={Set.univ}=> iprop((bigSep Finset.univ fun i : Fin 16 => goes m d c i)
    ∗ ((bigSep Finset.univ fun i : Fin 16 => back m d c i) -∗ (bigSep Finset.univ fun i : Fin 16 => back m d c i)))
  iintro H; imodintro
  isplitl [H]; · iexact H
  iintro H; iexact H

/-! ## The launch element -/

/-- The ghost state at the launch. -/
def u₀ : UU := (initOf (K (F := F)).hsCells (K (F := F)).hsToks, 1)

/-- It gives the handshakes their first state. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (P m).x q t) := by
  have e {I : Type} (s : Finset I) : (bigSep s fun _ => iprop(emp)) = (iprop(emp) : sProp 𝕄) := bigSep_emp_const s
  unfold u₀
  iintro Hu
  ihave H := (ownU_pair _ _) $$ Hu
  icases H with ⟨HH, -⟩
  imodintro
  isplitl [HH]; · iexact HH
  isplitr; · rw [e]; iempintro
  unfold P; dsimp only
  rw [show (bigSep Finset.univ fun _ : Thread nD τ => bigSep Finset.univ fun _ : Fin 1 => (iprop(emp) : sProp 𝕄)) = iprop(emp) from by
    rw [bigSep_congr fun _ _ => e _, e]]
  iempintro

/-! ## @main on the TensorCore -/

/-- The five arrays. -/
abbrev S5 : Finset (DevRef τ sig) := {a', b', x', o', r'}

/-- Where the first argument and the result lie. -/
abbrev aLoc (d : Dev nD) : Loc nD τ sig := (SparseCore.T d).loc main_arg0
abbrev rLoc (d : Dev nD) : Loc nD τ sig := (SparseCore.T d).loc main_v2

omit [FloatOps F] in
/-- The five arrays held, one by one. -/
theorem held_S5 (d : Dev nD) (W : Valuation τ sig (Elt F)) : (held (T d) S5 W : sProp 𝕄)
    = iprop((aLoc d ↦{fullShare} W a') ∗ (bLoc d ↦{fullShare} W b') ∗ (xLoc d ↦{fullShare} W x') ∗ (oLoc d ↦{fullShare} W o') ∗ rLoc d ↦{fullShare} W r') := by
  unfold held S5
  rw [SparseCore.bigSep_insert' (by decide), SparseCore.bigSep_insert' (by decide), SparseCore.bigSep_insert' (by decide),
    SparseCore.bigSep_insert' (by decide), bigSep_singleton]

omit [FloatOps F] in
/-- The TensorCore's buffers that outlast a call are the five arrays. -/
theorem unscopedBufs_eq (d : Dev nD) (W : (b : Ref sig .tc) → Buf (Elt F) ((d.tc : Thread nD τ).loc b)) : (unscopedBufs d W : sProp 𝕄)
    = iprop((aLoc d ↦{fullShare} W main_arg0) ∗ (bLoc d ↦{fullShare} W main_arg1) ∗ (xLoc d ↦{fullShare} W main_v0) ∗ (oLoc d ↦{fullShare} W main_v1)
        ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- So at the launch it holds the five arrays at their first contents. -/
theorem unscoped_held (d : Dev nD) : (unscopedBufs d (fun b => m ((SparseCore.T d).loc b)) : sProp 𝕄) = held (T d) S5 (V0 m d) := by
  rw [unscopedBufs_eq, held_S5]; rfl

/-- The call's operands, whole, and its results. -/
theorem st0_eq (d : Dev nD) : (bigSep Finset.univ fun c : Fin ((K (F := F)).nCore 0) => (P m).st 0 d c)
    = iprop((xLoc d ↦{fullShare} xs m d) ∗ (bLoc d ↦{fullShare} bs m d) ∗ oLoc d ↦{fullShare} os m d) := (shares d _ _ _).symm
/-- The call's operands whole, as it hands them back. -/
theorem dn0_eq (d : Dev nD) : (bigSep Finset.univ fun c : Fin ((K (F := F)).nCore 0) => (P m).dn 0 d c)
    = iprop((xLoc d ↦{fullShare} xs m d) ∗ (bLoc d ↦{fullShare} bs m d) ∗ oLoc d ↦{fullShare} rs m d) := (shares d _ _ _).symm

/-- After the call the flat result holds every row's result. -/
theorem V2_o (d : Dev nD) : V2 m d o' = rs m d := Function.update_self _ _ _
/-- The call changes no other array. -/
theorem V2_ne (d : Dev nD) {b : DevRef τ sig} (h : b ≠ o') : V2 m d b = V1 m d b := Function.update_of_ne h _ _

/-- The five arrays held after the call. -/
theorem held_V2 (d : Dev nD) : (held (T d) S5 (V2 m d) : sProp 𝕄)
    = iprop((aLoc d ↦{fullShare} V1 m d a') ∗ (bLoc d ↦{fullShare} bs m d) ∗ (xLoc d ↦{fullShare} xs m d) ∗ (oLoc d ↦{fullShare} rs m d)
        ∗ rLoc d ↦{fullShare} V1 m d r') := by
  rw [held_S5, V2_o, V2_ne m d (show a' ≠ o' by decide), V2_ne m d (show b' ≠ o' by decide), V2_ne m d (show x' ≠ o' by decide), V2_ne m d (show r' ≠ o' by decide)]

/-- The reshapes use the five arrays alone. -/
theorem hIn : (opIn (F := F)).bufs ⊆ S5 := show ({a', x'} : Finset (DevRef τ sig)) ⊆ S5 by decide
theorem hOut : (opOut (F := F)).bufs ⊆ S5 := show ({o', r'} : Finset (DevRef τ sig)) ⊆ S5 by decide

/-- What @main leaves: the five arrays, at their last contents. -/
abbrev FIN (d : Dev nD) : sProp 𝕄 := held (T d) S5 (V3 m d)

/-- @main runs: it reshapes, makes the call and reshapes its result. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opIn) (S := S5) hIn (V := V0 m d)) $$ [Hb Hheld]
  · isplitl [Hb]; · iexact Hb
    iexact Hheld
  iintro ⟨Hb, Hheld⟩
  rw [wp_ret]; imodintro
  ihave Hh := (Entails.of_eq (held_S5 (F := F) d _)) $$ Hheld
  icases Hh with ⟨Ha, Hbe, Hx, Ho, Hr⟩
  iapply ((K (F := F)).wp_run (D (F := F)) 𝒱 (EH := EH) (P := P m) κ d 0) $$ [Hst Ha Hbe Hx Ho Hb Hr Hts]
  isplitr; · iexact Hctx
  isplitl [Hst]; · iexact Hst
  isplitl [Hx Hbe Ho]
  · rw [st0_eq]
    isplitl [Hx]; · iexact Hx
    isplitl [Hbe]; · iexact Hbe
    iexact Ho
  iintro ⟨Hst, Hdn⟩
  ihave Hdn' := (Entails.of_eq (dn0_eq m d)) $$ Hdn
  icases Hdn' with ⟨Hx, Hbe, Ho⟩
  iapply (wp_hlo_within 𝒱 (SparseCore.T d) none Set.univ (op := opOut) (S := S5) hOut (V := V2 m d)) $$ [Hb Ha Hbe Hx Ho Hr]
  · isplitl [Hb]; · iexact Hb
    rw [held_V2]
    isplitl [Ha]; · iexact Ha
    isplitl [Hbe]; · iexact Hbe
    isplitl [Hx]; · iexact Hx
    isplitl [Ho]; · iexact Ho
    iexact Hr
  iintro ⟨Hb, Hheld⟩
  rw [wp_ret]; imodintro; imodintro
  isplitl [Hst]; · iexact Hst
  isplitl [Hheld]; · iexact Hheld
  isplitl [Hb] <;> iassumption

/-! ## The program's run -/

/-- A memory whose arguments and result are the last contents. -/
def Ends (d : Dev nD) (mem : (ℓ : Loc nD τ sig) → Buf (Elt F) ℓ) : Prop :=
  mem (aLoc d) = V3 m d a' ∧ mem (bLoc d) = V3 m d b' ∧ mem (rLoc d) = V3 m d r'

omit [FloatOps F] in
/-- A buffer held whole is what the memory holds there. -/
theorem agree {s' : Phys nD τ sig (Elt F)} {ℓ : Loc nD τ sig} {f : Buf (Elt F) ℓ} :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

/-- What @main leaves says how the memory ends. -/
theorem hfin (d : Dev nD) (s' : Phys nD τ sig (Elt F)) : iprop(FIN m d ∗ SI s') ⊢ (⌜Ends m d s'.mem.mem⌝ : sProp 𝕄) := by
  unfold FIN; rw [held_S5]
  iintro ⟨⟨Ha, Hb, -, -, Hr⟩, HSI⟩
  ihave H := (persistent_entails_right (agree (s' := s') (ℓ := aLoc d))) $$ [HSI Ha]
  · isplitl [Ha] <;> iassumption
  icases H with ⟨%h1, -, HSI⟩
  ihave H := (persistent_entails_right (agree (s' := s') (ℓ := bLoc d))) $$ [HSI Hb]
  · isplitl [Hb] <;> iassumption
  icases H with ⟨%h2, -, HSI⟩
  ihave H := (agree (s' := s') (ℓ := rLoc d)) $$ [HSI Hr]
  · isplitl [Hr] <;> iassumption
  icases H with %h3
  ipureintro; exact ⟨h1, h2, h3⟩

/-- How the run ends: the arrays at their last contents, every counter at zero. -/
def QC : PUnit × MemSt nD τ sig (Elt F) → Prop := fun r => (∀ c : Dev nD, Ends m c r.2.mem) ∧ r.2.sem = fun _ => 0

/-- The whole program runs and ends so, over any float values. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fun d s' => Ends m d s'.mem.mem) (hfin m) (QC m)
    (fun _ h hz => ⟨h, hz⟩)

/-! ## The last contents -/

/-- The first reshape changes the flat argument alone. -/
theorem V1_ne (d : Dev nD) {b : DevRef τ sig} (h : b ∉ (opIn (F := F)).writes) : V1 m d b = m (d, b) := (opIn (F := F)).result_of_not_mem _ h
/-- The second reshape changes the result alone. -/
theorem V3_ne (d : Dev nD) {b : DevRef τ sig} (h : b ∉ (opOut (F := F)).writes) : V3 m d b = V2 m d b := (opOut (F := F)).result_of_not_mem _ h

/-- The first argument ends as it was. -/
theorem V3_a (d : Dev nD) : V3 m d a' = m (aLoc d) :=
  (V3_ne m d (show a' ∉ ({r'} : Finset (DevRef τ sig)) by decide)).trans
    ((V2_ne m d (show a' ≠ o' by decide)).trans (V1_ne m d (show a' ∉ ({x'} : Finset (DevRef τ sig)) by decide)))
/-- The second argument ends as it was. -/
theorem V3_b (d : Dev nD) : V3 m d b' = m (bLoc d) :=
  (V3_ne m d (show b' ∉ ({r'} : Finset (DevRef τ sig)) by decide)).trans
    ((V2_ne m d (show b' ≠ o' by decide)).trans (V1_ne m d (show b' ∉ ({x'} : Finset (DevRef τ sig)) by decide)))

end Cert.Proof.Run

end
-- ==== Proof.Frames.lean ====
/-
  THE FRAMES of the kernel, as printed and idealized: the run of Launch.lean, its result forgotten.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.Proof

open Idealize.ShloMosaic Idealize.SL.Sem

/-- The kernel runs at bits: the idealized program's run, the two programs being one text. -/
theorem frame_kernel : Cert.quiescent_Kernel := fun m ρ _ =>
  (θ_run Cert.KernelIdeal.defs _ _).mono
    (fun _ h => ⟨fun c => ⟨(h.1 c).1.trans (Run.V3_a m c), (h.1 c).2.1.trans (Run.V3_b m c)⟩, h.2⟩) (Run.run_main (F := Bits) m ρ)

/-- The idealized kernel runs. -/
theorem frame_ideal : Cert.quiescent_KernelIdeal := fun m ρ _ =>
  (θ_run Cert.KernelIdeal.defs _ _).mono
    (fun _ h => ⟨fun c => ⟨(h.1 c).1.trans (Run.V3_a m c), (h.1 c).2.1.trans (Run.V3_b m c)⟩, h.2⟩) (Run.run_main (F := Ideal) m ρ)

/-- The reference runs: host operations alone, and no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩) (Cert.ReferenceIdeal.Value.run (F := Ideal) m ρ)

end Cert.Proof

end
-- ==== Proof.Select.lean ====
/-
  WHICH COLUMNS A ROW'S EIGHT ROUNDS PICK, over the extended reals: the first eight positions of the row's stable sort, greatest first, when
  every score of the row is above minus infinity.
-/
module

public import proofs.«01_k».proof.Proof.Row
public import Idealize.ShloMosaic.PureOps.Ideal.Laws
public import Idealize.ShloMosaic.Lib.SortPrefix
public import Idealize.ShloMosaic.Lib.LaneScatter.Pure

@[expose] public section

noncomputable section

namespace Cert.Proof.Row

open Idealize.ShloMosaic

/-- The comparison of the scan is the order of the extended reals. -/
theorem gt_iff (a b : EReal) : FloatOps.cmpf (F := Ideal) (φ := .f32) .ogt a b = 1 ↔ b < a := by
  show BitVec.ofBool (decide (b < a)) = 1#1 ↔ _
  by_cases h : b < a <;> simp [h]

/-- The word that the scan starts from is minus infinity. -/
theorem ninf_eq : (ninf : Ideal .f32) = (⊥ : EReal) := by
  show Ideal.ofBits .f32 0xFF800000#32 = ⊥
  simp [Ideal.ofBits, Ideal.ieee]

/-- The word of zero is zero. -/
theorem zero_eq : (zero : Ideal .f32) = (0 : EReal) := Ideal.ofBits_zero_f32

/-- The scan's pick is no less than any score scanned; if it is above minus infinity, it is the score of its column, which was scanned, and every
    earlier score is less. -/
theorem best_spec (s : ℕ → EReal) (n : ℕ) :
    (∀ j < n, s j ≤ (best (F := Ideal) s n).1) ∧
    ((best (F := Ideal) s n).1 ≠ (⊥ : EReal) → (best (F := Ideal) s n).2 < n ∧ (best (F := Ideal) s n).1 = s (best (F := Ideal) s n).2 ∧
      ∀ j < (best (F := Ideal) s n).2, s j < (best (F := Ideal) s n).1) := by
  induction n with
  | zero => exact ⟨fun j hj => absurd hj (Nat.not_lt_zero j), fun h => absurd ninf_eq h⟩
  | succ n ih =>
    unfold best
    by_cases h : FloatOps.cmpf (F := Ideal) (φ := .f32) .ogt (s n) (best (F := Ideal) s n).1 = 1
    · rw [if_pos h]
      have h' : (best (F := Ideal) s n).1 < s n := (gt_iff _ _).mp h
      refine ⟨fun j hj => ?_, fun _ => ⟨Nat.lt_succ_self n, rfl, fun j hj => lt_of_le_of_lt (ih.1 j hj) h'⟩⟩
      rcases Nat.lt_succ_iff_lt_or_eq.mp hj with hj | rfl
      · exact ((ih.1 j hj).trans_lt h').le
      · exact le_refl _
    · rw [if_neg h]
      have h' : s n ≤ (best (F := Ideal) s n).1 := not_lt.mp fun q => h ((gt_iff _ _).mpr q)
      refine ⟨fun j hj => ?_, fun hb => ⟨(ih.2 hb).1.trans (Nat.lt_succ_self n), (ih.2 hb).2⟩⟩
      rcases Nat.lt_succ_iff_lt_or_eq.mp hj with hj | rfl
      · exact ih.1 j hj
      · exact h'

/-- The scores before round `i`. -/
def st (s : ℕ → EReal) : ℕ → ℕ → EReal
  | 0 => s
  | i + 1 => next (F := Ideal) (st s i)

/-- The column round `i` picks. -/
def col (s : ℕ → EReal) (i : ℕ) : ℕ := (best (F := Ideal) (st s i) 64).2

/-- Starting a round later is counting the rounds from one. -/
theorem st_next (s : ℕ → EReal) (i : ℕ) : st (next (F := Ideal) s) i = st s (i + 1) := by
  induction i with
  | zero => rfl
  | succ i ih => show next (F := Ideal) (st (next (F := Ideal) s) i) = next (F := Ideal) (st s (i + 1)); rw [ih]

/-- The picks of `n` rounds, by number. -/
theorem sels_eq (n : ℕ) : ∀ s : ℕ → EReal, sels (F := Ideal) n s = (List.range n).map fun i => best (F := Ideal) (st s i) 64 := by
  induction n with
  | zero => intro s; rfl
  | succ n ih =>
    intro s
    rw [List.range_succ_eq_map, List.map_cons, List.map_map]
    show best (F := Ideal) s 64 :: sels (F := Ideal) n (next (F := Ideal) s) = best (F := Ideal) s 64 :: _
    rw [ih]
    refine congrArg _ (List.map_congr_left fun i _ => ?_)
    rw [st_next]; rfl

/-- A column keeps its score until it is picked, and is minus infinity from then on. -/
theorem st_apply (s : ℕ → EReal) (i j : ℕ) : st s i j = if ∃ i' < i, col s i' = j then ⊥ else s j := by
  induction i with
  | zero => rw [if_neg (by rintro ⟨i', h, -⟩; exact absurd h (Nat.not_lt_zero i'))]; rfl
  | succ i ih =>
    show (if j = col s i then (ninf : Ideal .f32) else st s i j) = _
    by_cases h : j = col s i
    · rw [if_pos h, if_pos ⟨i, Nat.lt_succ_self i, h.symm⟩]; exact ninf_eq
    · rw [if_neg h, ih]
      refine if_congr ⟨fun ⟨i', h', e⟩ => ⟨i', h'.trans (Nat.lt_succ_self i), e⟩, fun ⟨i', h', e⟩ => ?_⟩ rfl rfl
      rcases Nat.lt_succ_iff_lt_or_eq.mp h' with h' | rfl
      · exact ⟨i', h', e⟩
      · exact absurd e.symm h

section
variable {s : ℕ → EReal} (hs : ∀ j < 64, s j ≠ ⊥)
include hs

/-- Fewer than 64 rounds leave a column's score above minus infinity. -/
theorem exists_left {i : ℕ} (hi : i < 64) : ∃ j < 64, st s i j ≠ ⊥ := by
  by_contra hc
  have hsub : (Finset.range 64) ⊆ (Finset.range i).image (col s) := fun j hj => by
    have hj' := Finset.mem_range.mp hj
    by_contra hn
    refine hc ⟨j, hj', ?_⟩
    rw [st_apply, if_neg fun ⟨i', h, e⟩ => hn (Finset.mem_image.mpr ⟨i', Finset.mem_range.mpr h, e⟩)]
    exact hs j hj'
  have := (Finset.card_le_card hsub).trans Finset.card_image_le
  rw [Finset.card_range, Finset.card_range] at this
  omega

/-- The pick of a round is above minus infinity. -/
theorem best_ne {i : ℕ} (hi : i < 64) : (best (F := Ideal) (st s i) 64).1 ≠ (⊥ : EReal) := by
  obtain ⟨j, hj, h⟩ := exists_left hs hi
  intro e
  have := (best_spec (st s i) 64).1 j hj
  rw [e] at this
  exact h (le_bot_iff.mp this)

/-- The column a round picks is one of the row's. -/
theorem col_lt {i : ℕ} (hi : i < 64) : col s i < 64 := ((best_spec (st s i) 64).2 (best_ne hs hi)).1

/-- The columns picked differ. -/
theorem col_ne {i i' : ℕ} (hi : i < 64) (h : i' < i) : col s i' ≠ col s i := fun e => by
  have h1 := ((best_spec (st s i) 64).2 (best_ne hs hi)).2.1
  have h2 : st s i (col s i) = ⊥ := by rw [st_apply, if_pos ⟨i', h, e⟩]
  exact best_ne hs hi (h1.trans h2)

/-- Its score is still the first one. -/
theorem st_col {i : ℕ} (hi : i < 64) : st s i (col s i) = s (col s i) := by
  rw [st_apply, if_neg]
  rintro ⟨i', h, e⟩
  exact col_ne hs hi h e

/-- The pick of a round is its column's score as it was at first. -/
theorem best_val {i : ℕ} (hi : i < 64) : best (F := Ideal) (st s i) 64 = (s (col s i), col s i) :=
  Prod.ext (((best_spec (st s i) 64).2 (best_ne hs hi)).2.1.trans (st_col hs hi)) rfl

/-- A column not picked before a round has no greater score than the one picked there, and a lesser one if it is an earlier column. -/
theorem col_before {i p : ℕ} (hi : i < 64) (hp : p < 64) (h : ∀ i' < i, col s i' ≠ p) :
    s p ≤ s (col s i) ∧ (p < col s i → s p < s (col s i)) := by
  have e : st s i p = s p := by
    rw [st_apply, if_neg]
    rintro ⟨i', h', e⟩
    exact h i' h' e
  have hb : (best (F := Ideal) (st s i) 64).1 = s (col s i) := congrArg Prod.fst (best_val hs hi)
  have h1 := (best_spec (st s i) 64).1 p hp
  have h2 := ((best_spec (st s i) 64).2 (best_ne hs hi)).2.2 p
  rw [e, hb] at h1 h2
  exact ⟨h1, h2⟩

end

/-! ## The stable sort -/

/-- A stable sort asks its comparator only whether a later element is before an earlier one. -/
theorem stableSort_later {ι : Type} (R R' : ι → ι → Bool) (l : List ι) (h : l.Pairwise fun a b => R b a = R' b a) : stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- Sorting by position asks the comparator no more than that. -/
theorem sortedFrom_later {n : ℕ} (R R' : Fin n → Fin n → Bool) (h : ∀ a b, a < b → R b a = R' b a) : sortedFrom R = sortedFrom R' := by
  have e : sortPositions n R = sortPositions n R' := stableSort_later R R' _ ((List.pairwise_lt_finRange n).imp fun hab => h _ _ hab)
  funext k
  exact List.get_of_eq e _

/-- The stable sort of a row's 64 scores, greatest first, begins with the columns the rounds pick. -/
theorem sortedFrom_col {s : ℕ → EReal} (hs : ∀ j < 64, s j ≠ ⊥) (R : Fin 64 → Fin 64 → Bool) (hR : ∀ a b : Fin 64, R a b = decide (s b.val < s a.val))
    (i : Fin 8) : (sortedFrom R (i.castLE (by decide))).val = col s i.val := by
  have hB := StrictTotalBefore.of_key_then_position (n := 64) (fun a b : EReal => decide (b < a)) (fun k => s k.val) (fun a => by simp)
    (fun a b c h1 h2 => by simp only [decide_eq_true_eq] at h1 h2 ⊢; exact h2.trans h1)
    (fun a b => by simp only [decide_eq_true_eq]; rcases lt_trichotomy a b with h | h | h; exacts [.inr (.inr h), .inr (.inl h), .inl h])
  have hi8 : ∀ i : Fin 8, i.val < 64 := fun i => by omega
  rw [sortedFrom_later R _ (fun a b hab => (hR b a).trans (show decide (s a.val < s b.val) = (decide (s a.val < s b.val) || (decide (s b.val = s a.val) && decide (b < a))) from by
    rw [decide_eq_false (not_lt.mpr hab.le), Bool.and_false, Bool.or_false]))]
  refine congrArg Fin.val (hB.sortedFrom_eq_of_prefix (by decide) (fun i : Fin 8 => ⟨col s i.val, col_lt hs (hi8 i)⟩) ?_ ?_ ?_ i)
  · intro a b e
    have e' : col s a.val = col s b.val := congrArg Fin.val e
    rcases lt_trichotomy a b with h | h | h
    · exact absurd e' (col_ne hs (hi8 b) h)
    · exact h
    · exact absurd e'.symm (col_ne hs (hi8 a) h)
  all_goals
    have key : ∀ (i : Fin 8) (p : Fin 64), (∀ i' < i.val, col s i' ≠ p.val) → (decide (s (col s i.val) < s p.val) || (decide (s p.val = s (col s i.val)) && decide (p.val < col s i.val))) = false := by
      intro i p h
      have := col_before hs (hi8 i) p.isLt h
      rw [decide_eq_false (not_lt.mpr this.1), Bool.false_or, Bool.and_eq_false_iff]
      by_cases hp : p.val < col s i.val
      · exact .inl (decide_eq_false (this.2 hp).ne)
      · exact .inr (decide_eq_false hp)
  · intro i j hij
    exact key i ⟨col s j.val, col_lt hs (hi8 j)⟩ fun i' h => col_ne hs (hi8 j) (h.trans hij)
  · intro i p h
    exact key i p fun i' h' e => h ⟨i', by omega⟩ (Fin.ext e)

/-! ## The row's result -/

/-- A store list taken apart at its end. -/
theorem stores_append (den : Ideal .f32) (l : List (Ideal .f32 × ℕ)) (e : Ideal .f32 × ℕ) : ∀ (g : ℕ → Ideal .f32) (j : ℕ),
    stores den (l ++ [e]) g j = if j = e.2 then FloatOps.divf e.1 den else stores den l g j := by
  induction l with
  | nil => intro g j; rfl
  | cons a l ih => intro g j; exact ih _ j

/-- A list of quotients stored in turn leaves, at a column, the last one stored there. -/
theorem stores_range (den : EReal) (e : ℕ → EReal) (c : ℕ → ℕ) (g : ℕ → EReal) (j : ℕ) (n : ℕ) :
    stores (F := Ideal) den ((List.range n).map fun k => (e k, c k)) g j = LaneScatter.lastHit (fun k => j = c k) (fun k => Ideal.div (e k) den) (g j) n := by
  induction n with
  | zero => rfl
  | succ n ih =>
    rw [List.range_succ, List.map_append]
    refine (stores_append _ _ _ g j).trans ?_
    rw [ih]; rfl

/-- The greatest of eight values folded from the first is the greatest of them as a set. -/
theorem fold1_max (y : ℕ → EReal) : fold1 (F := Ideal) FloatOps.maximumf ((List.range 8).map y) = max ⊥ (Finset.univ.fold max ⊥ fun k : Fin 8 => y k.val) := by
  show max (max (max (max (max (max (max (y 0) (y 1)) (y 2)) (y 3)) (y 4)) (y 5)) (y 6)) (y 7)
    = max ⊥ (max (y 0) (max (y 1) (max (y 2) (max (y 3) (max (y 4) (max (y 5) (max (y 6) (max (y 7) ⊥))))))))
  rw [max_bot_left, max_bot_right]
  simp only [max_assoc]

/-- Eight values added from the first are their sum. -/
theorem fold1_add (y : ℕ → EReal) : fold1 (F := Ideal) FloatOps.addf ((List.range 8).map y) = 0 + ∑ k : Fin 8, y k.val := by
  rw [zero_add, Fin.sum_univ_eight]; rfl

/-- An extended real that is neither infinity. -/
def IsReal (a : EReal) : Prop := a ≠ ⊥ ∧ a ≠ ⊤

/-- A difference of finite values is not minus infinity. -/
theorem sub_ne {a b : EReal} (ha : IsReal a) (hb : IsReal b) : a - b ≠ ⊥ := by
  lift a to ℝ using ⟨ha.2, ha.1⟩
  lift b to ℝ using ⟨hb.2, hb.1⟩
  rw [← EReal.coe_sub]; exact EReal.coe_ne_bot _

/-- Adding back what was taken off gives the finite value itself. -/
theorem sub_add {a b : EReal} (ha : IsReal a) (hb : IsReal b) : a - b + b = a := by
  lift a to ℝ using ⟨ha.2, ha.1⟩
  lift b to ℝ using ⟨hb.2, hb.1⟩
  rw [← EReal.coe_sub, ← EReal.coe_add, sub_add_cancel]

/-- The scores of a row. -/
def score (x β : ℕ → EReal) : ℕ → EReal := fun j => x j - β j
/-- The greatest logit of the columns picked. -/
def peak (x β : ℕ → EReal) : EReal := max ⊥ (Finset.univ.fold max ⊥ fun k : Fin 8 => x (col (score x β) k.val))
/-- The exponential at the `k`th column picked. -/
def expAt (x β : ℕ → EReal) (k : ℕ) : EReal := Ideal.exp (x (col (score x β) k) - peak x β)
/-- The sum of the eight exponentials. -/
def total (x β : ℕ → EReal) : EReal := 0 + ∑ k : Fin 8, expAt x β k.val

/-- A row of finite logits and finite beta: the softmax of the eight picked logits at their columns, and zero elsewhere. -/
theorem out_eq {x β : ℕ → EReal} (hx : ∀ j < 64, IsReal (x j)) (hβ : ∀ j < 64, IsReal (β j)) (j : ℕ) :
    out (F := Ideal) x β j = LaneScatter.lastHit (fun k => j = col (score x β) k) (fun k => Ideal.div (expAt x β k) (total x β)) 0 8 := by
  have hs : ∀ j < 64, score x β j ≠ ⊥ := fun j hj => sub_ne (hx j hj) (hβ j hj)
  have h1 : addBack (F := Ideal) β (sels (F := Ideal) 8 (score x β)) = (List.range 8).map fun k => (x (col (score x β) k), col (score x β) k) := by
    rw [sels_eq]
    unfold addBack
    rw [List.map_map]
    refine List.map_congr_left fun k hk => ?_
    have hk64 : k < 64 := (List.mem_range.mp hk).trans (by decide)
    have hc := col_lt hs hk64
    show (((best (F := Ideal) (st (score x β) k) 64).1 + β (best (F := Ideal) (st (score x β) k) 64).2 : EReal), (best (F := Ideal) (st (score x β) k) 64).2) = _
    rw [best_val hs hk64]
    exact Prod.ext (sub_add (hx _ hc) (hβ _ hc)) rfl
  have h2 : exps (F := Ideal) ((List.range 8).map fun k => (x (col (score x β) k), col (score x β) k))
      = (List.range 8).map fun k => (expAt x β k, col (score x β) k) := by
    unfold exps
    rw [List.map_map, List.map_map]
    have hp : fold1 (F := Ideal) FloatOps.maximumf ((List.range 8).map (Prod.fst ∘ fun k => (x (col (score x β) k), col (score x β) k))) = peak x β :=
      fold1_max fun k => x (col (score x β) k)
    rw [hp]; rfl
  have h3 : fold1 (F := Ideal) FloatOps.addf (((List.range 8).map fun k => (expAt x β k, col (score x β) k)).map Prod.fst) = total x β := by
    rw [List.map_map]; exact fold1_add _
  show spread (F := Ideal) (exps (F := Ideal) (addBack (F := Ideal) β (sels (F := Ideal) 8 (score x β)))) (fun _ => zero) j = _
  rw [h1, h2]
  unfold spread
  rw [h3]
  refine (stores_range _ _ _ _ j 8).trans ?_
  rw [zero_eq]

end Cert.Proof.Row
-- ==== Proof.RefVal.lean ====
/-
  THE REFERENCE'S RESULT, element by element, over the extended reals.
-/
module

public import proofs.«01_k».proof.Proof.Select
public import proofs.«01_k».proof.Proof.Gen.ReferenceIdeal
public import Idealize.ShloMosaic.Lib.Pointwise
public import Idealize.ShloMosaic.Lib.ReduceAll
public import Idealize.ShloMosaic.Lib.ScatterToDense.RefScatter

@[expose] public section

noncomputable section

namespace Cert.Proof.Ref

open Cert.ReferenceIdeal Cert.ReferenceIdeal.Gen Idealize.ShloMosaic
open Cert.Proof.Row

variable (x : FVec Ideal S16384x64 .f32) (b : FVec Ideal S64 .f32)

/-! ## The stages of the reference -/

/-- Logits less beta. -/
def scores : FVec Ideal S16384x64 .f32 :=
  subf x (broadcastInDim S16384x64 ![0, 1] bcast_S1x64_S16384x64_0_1 (broadcastInDim S1x64 ![1] bcast_S64_S1x64_1 b))
/-- The columns of the eight greatest. -/
def places : IVec S16384x8 32 := (Host.topK S16384x8 1 (FloatOps.cmpfTotal (F := Ideal) (φ := .f32) .gt) (scores x b) sliceFits_S16384x64_S16384x8).2
/-- The columns, a negative one counted from the end. -/
def wrapped : IVec S16384x8 32 :=
  select (cmpi .slt (places x b) (broadcastInDim S16384x8 ![] bcast_S_S16384x8 (constantI S_ 32 0#32)))
    (addi (places x b) (broadcastInDim S16384x8 ![] bcast_S_S16384x8 (constantI S_ 32 64#32))) (places x b)

/-- Row `r` of the logits. -/
def rowOf (r : Fin 16384) : ℕ → EReal := fun j => x (ix2 r ⟨j % 64, Nat.mod_lt _ (by decide)⟩)
/-- Beta by column. -/
def betaOf : ℕ → EReal := fun j => b (ix1 ⟨j % 64, Nat.mod_lt _ (by decide)⟩)

/-- The scores at a row and a column. -/
theorem scores_apply (r : Fin 16384) (j : Fin 64) : scores x b (ix2 r j) = score (rowOf x r) (betaOf b) j.val := by
  unfold scores score rowOf betaOf
  pointwise
  have hj : (⟨j.val % 64, Nat.mod_lt _ (by decide)⟩ : Fin 64) = j := Fin.ext (Nat.mod_eq_of_lt j.isLt)
  rw [hj]

/-- The total-order comparison, as a test. -/
theorem gt_beq (a a' : EReal) : (FloatOps.cmpfTotal (F := Ideal) (φ := .f32) .gt a a' == 1#1) = decide (a' < a) := by
  show (BitVec.ofBool (decide (a' < a)) == 1#1) = _
  by_cases h : a' < a <;> simp [h]

/-- The positions a top-k along the rows of a matrix gives: at `(r, k)`, where a stable sort of row `r` takes its `k`th element from. -/
theorem topK_places {α : Type} {R N K : ℕ} (gt : α → α → BitVec 1) (y : (⟨2, ![R, N]⟩ : Shape).Idx → α)
    (h : (⟨2, ![R, N]⟩ : Shape).Slices (fun _ => 0) ⟨2, ![R, K]⟩) (hK : K ≤ N) (r : Fin R) (k : Fin K) :
    (Host.topK ⟨2, ![R, K]⟩ 1 gt y h).2 (ix2 r k)
      = BitVec.ofNat 32 (sortedFrom (fun a a' : Fin N => gt (y (ix2 r a)) (y (ix2 r a')) == 1#1) (k.castLE hK)).val := by
  have hd : 1 < (⟨2, ![R, N]⟩ : Shape).rank := by show 1 < 2; decide
  have hal : ∀ (j : (⟨2, ![R, N]⟩ : Shape).Idx) (a : Fin N), (j 0).val = r.val → (j.along ⟨1, hd⟩ a : (⟨2, ![R, N]⟩ : Shape).Idx) = ix2 r a := fun j a hj => by
    funext i
    match i with
    | ⟨0, _⟩ => exact Fin.ext hj
    | ⟨1, _⟩ => rfl
  have key : ∀ (f : (⟨2, ![R, N]⟩ : Shape).Idx) (c : Fin N), (f 0).val = r.val → c = k.castLE hK →
      BitVec.ofNat 32 ((f.along ⟨1, hd⟩ (sortedFrom (fun a a' : Fin N => gt (y (f.along ⟨1, hd⟩ a)) (y (f.along ⟨1, hd⟩ a')) == 1#1) c) :
          (⟨2, ![R, N]⟩ : Shape).Idx) ⟨1, hd⟩).val
        = BitVec.ofNat 32 (sortedFrom (fun a a' : Fin N => gt (y (ix2 r a)) (y (ix2 r a')) == 1#1) (k.castLE hK)).val := fun f c hf hc => by
    have e : (fun a a' : Fin N => gt (y (f.along ⟨1, hd⟩ a)) (y (f.along ⟨1, hd⟩ a')) == 1#1) = fun a a' => gt (y (ix2 r a)) (y (ix2 r a')) == 1#1 := by
      funext a a'; rw [hal f a hf, hal f a' hf]
    rw [e, hc]
    exact congrArg (fun q : Fin N => BitVec.ofNat 32 q.val) (Function.update_self (β := fun a => Fin ((⟨2, ![R, N]⟩ : Shape).size a)) ⟨1, hd⟩ _ f)
  unfold Host.topK Host.sort2 extractStridedSlice
  simp only [dif_pos hd]
  rw [iotaInDim]
  exact key _ _ (Nat.zero_add _) (Fin.ext (Nat.zero_add _))

/-- A stable sort of row `r` cut to its first eight, at position `k`: the column the rounds pick `k`th. -/
theorem places_apply (r : Fin 16384) (k : Fin 8) (hs : ∀ j < 64, score (rowOf x r) (betaOf b) j ≠ ⊥) :
    places x b (ix2 r k) = BitVec.ofNat 32 (col (score (rowOf x r) (betaOf b)) k.val) := by
  rw [← sortedFrom_col hs (fun a a' => FloatOps.cmpfTotal (F := Ideal) (φ := .f32) .gt (scores x b (ix2 r a)) (scores x b (ix2 r a')) == 1#1) (fun a a' => by
    rw [scores_apply, scores_apply]
    exact gt_beq _ _) k]
  exact topK_places (FloatOps.cmpfTotal (F := Ideal) (φ := .f32) .gt) (scores x b) sliceFits_S16384x64_S16384x8 (by decide) r k

/-- A word of a column is not negative. -/
theorem wrapped_apply (r : Fin 16384) (k : Fin 8) (hs : ∀ j < 64, score (rowOf x r) (betaOf b) j ≠ ⊥) :
    wrapped x b (ix2 r k) = BitVec.ofNat 32 (col (score (rowOf x r) (betaOf b)) k.val) := by
  unfold wrapped
  pointwise
  rw [places_apply x b r k hs]
  have hc := col_lt hs (show k.val < 64 by omega)
  refine Routing.wrap_of_lt _ _ ?_
  rw [BitVec.toNat_ofNat, Nat.mod_eq_of_lt (by omega)]
  omega

/-- The gather's dimension numbers: rows are a batch, columns are named by words. -/
abbrev gd : GatherDims S16384x64 S16384x8x1 S16384x8 := gather_S16384x64_S16384x8x1_S16384x8_n_1_0_0_1_2_11

/-- The gather of the rows: at `(r, k)`, row `r`'s element at the column the word names. -/
theorem gather_apply (y : FVec Ideal S16384x64 .f32) (idx : IVec S16384x8x1 32) (r : Fin 16384) (k : Fin 8) (c : Fin 64)
    (h : idx (ix3 r k 0) = BitVec.ofNat 32 c.val) : Host.gather gd y idx (ix2 r k) = y (ix2 r c) := by
  unfold Host.gather
  congr 1
  funext a
  refine Fin.ext ?_
  show gd.start (ix2 r k) idx a + gd.batchCoord (ix2 r k) a + gd.offCoord (ix2 r k) a = _
  have h01 : a = 0 ∨ a = 1 := by
    match a with
    | ⟨0, _⟩ => exact .inl rfl
    | ⟨1, _⟩ => exact .inr rfl
  have hoff : gd.offCoord (ix2 r k) a = 0 := GatherDims.offCoord_eq_zero _ _ _ fun hm => by
    have h2 := (GatherDims.mem_sKept _ _).mp hm
    rcases h01 with rfl | rfl
    · exact h2.2 (List.mem_singleton.mpr rfl)
    · exact h2.1 (List.mem_singleton.mpr rfl)
  rw [hoff, Nat.add_zero]
  rcases h01 with rfl | rfl
  · rw [GatherDims.start_batching _ _ _ _ (List.mem_singleton.mpr rfl), Nat.zero_add]
    unfold GatherDims.batchCoord
    rw [dif_pos (show (0 : Fin 2) ∈ gd.operandBatchingDims from List.mem_singleton.mpr rfl)]
    rfl
  · rw [GatherDims.batchCoord_eq_zero _ _ _ (fun h => absurd (show (1 : Fin 2) ∈ [(0 : Fin 2)] from h) (by decide)), Nat.add_zero]
    unfold GatherDims.start
    rw [dif_pos (show (1 : Fin 2) ∈ gd.startIndexMap from List.mem_singleton.mpr rfl)]
    have hsi : gd.siIdx (ix2 r k) ⟨List.idxOf (1 : Fin 2) gd.startIndexMap, List.idxOf_lt_length_iff.2 (List.mem_singleton.mpr rfl)⟩ = ix3 r k 0 := by
      funext d; refine Fin.ext ?_
      match d with
      | ⟨0, _⟩ => rfl
      | ⟨1, _⟩ => rfl
      | ⟨2, _⟩ => rfl
    refine (congrArg (fun i => min (idx i).toInt.toNat 63) hsi).trans ?_
    rw [h, StableHlo.Predicate.toInt_ofNat_small _ (by omega)]
    show min c.val 63 = c.val
    omega

/-- The columns as index vectors of one word. -/
def words : IVec S16384x8x1 32 := shapeCast _ (wrapped x b) shapeCasts_S16384x8_S16384x8x1
/-- Each index vector is in range. -/
def inRange : IVec S16384x8 1 :=
  Host.reduce IntOp.andi (andi (cmpi .sge (words x b) (broadcastInDim S16384x8x1 ![] bcast_S_S16384x8x1 (constantI S_ 32 0#32)))
    (cmpi .sle (words x b) (broadcastInDim S16384x8x1 ![0, 1, 2] bcast_S1x1x1_S16384x8x1_0_1_2 (broadcastInDim S1x1x1 ![2] bcast_S1_S1x1x1_2 (constantI S1 32 63#32)))))
    (constantI S_ 1 1#1) reducesTo_S16384x8x1_S16384x8_d2 h_S_
/-- The logits at the columns. -/
def picked : FVec Ideal S16384x8 .f32 :=
  select (inRange x b) (Host.gather gd x (words x b)) (broadcastInDim S16384x8 ![] bcast_S_S16384x8 (constant S_ .f32 0x7FC00000#32))
/-- The same over the temperature, which is one. -/
def scaled : FVec Ideal S16384x8 .f32 := Host.divf (picked x b) (broadcastInDim S16384x8 ![] bcast_S_S16384x8 (constant S_ .f32 0x3F800000#32))
/-- The greatest of a row's eight. -/
def peaks : FVec Ideal S16384 .f32 :=
  maximumf (broadcastInDim S16384 ![] bcast_S_S16384 (constant S_ .f32 0xFF800000#32))
    (Host.reduce FloatOps.maximumf (scaled x b) (constant S_ .f32 0xFF800000#32) reducesTo_S16384x8_S16384_d1 h_S_)
/-- The exponentials. -/
def expos : FVec Ideal S16384x8 .f32 :=
  Host.exp (subf (scaled x b) (broadcastInDim S16384x8 ![0, 1] bcast_S16384x1_S16384x8_0_1 (broadcastInDim S16384x1 ![0] bcast_S16384_S16384x1_0 (peaks x b))))
/-- The probabilities. -/
def probs : FVec Ideal S16384x8 .f32 :=
  Host.divf (expos x b) (broadcastInDim S16384x8 ![0, 1] bcast_S16384x1_S16384x8_0_1 (broadcastInDim S16384x1 ![0] bcast_S16384_S16384x1_0
    (Host.reduceAdd (expos x b) (constant S_ .f32 0x00000000#32) reducesTo_S16384x8_S16384_d1 h_S_)))
/-- The rows' numbers, a negative one counted from the end. -/
def rowWords : IVec S16384x1 32 :=
  select (cmpi .slt (broadcastInDim S16384x1 ![0] bcast_S16384_S16384x1_0 (iotaInDim S16384 32 0)) (broadcastInDim S16384x1 ![] bcast_S_S16384x1 (constantI S_ 32 0#32)))
    (addi (broadcastInDim S16384x1 ![0] bcast_S16384_S16384x1_0 (iotaInDim S16384 32 0)) (broadcastInDim S16384x1 ![] bcast_S_S16384x1 (constantI S_ 32 16384#32)))
    (broadcastInDim S16384x1 ![0] bcast_S16384_S16384x1_0 (iotaInDim S16384 32 0))
/-- The index pairs: row and column. -/
def pairs : IVec S16384x8x2 32 :=
  concatenate S16384x8x2 2
    [⟨S16384x8x1, (broadcastInDim S16384x8x1 ![0, 1] bcast_S16384x8_S16384x8x1_0_1 (broadcastInDim S16384x8 ![0, 1] bcast_S16384x1_S16384x8_0_1 rowWords))⟩,
      ⟨S16384x8x1, (broadcastInDim S16384x8x1 ![0, 1] bcast_S16384x8_S16384x8x1_0_1 (wrapped x b))⟩] concatenates_S16384x8x1_S16384x8x1_S16384x8x2_d2
/-- The result: the probabilities at their columns, zero elsewhere. -/
def result : FVec Ideal S16384x64 .f32 :=
  Host.scatter scatter_S16384x64_S16384x8x2_S16384x8_n_01_01_2 (fun _ b => b) (broadcastInDim S16384x64 ![] bcast_S_S16384x64 (constant S_ .f32 0x00000000#32))
    (pairs x b) (probs x b)

/-- A column's word is between 0 and 63. -/
theorem word_range : ∀ c : Fin 64, IntOp.andi (IntOp.cmpi .sge (BitVec.ofNat 32 c.val) 0#32) (IntOp.cmpi .sle (BitVec.ofNat 32 c.val) 63#32) = 1#1 := by
  decide

/-- A quotient by one. -/
theorem div_one (a : EReal) : Ideal.div a 1 = a := by
  unfold Ideal.div
  rw [if_neg one_ne_zero, ← EReal.coe_one, ← EReal.coe_inv, inv_one, EReal.coe_one, mul_one]

section
variable {x b} (hx : ∀ r, ∀ j < 64, IsReal (rowOf x r j)) (hb : ∀ j < 64, IsReal (betaOf b j))
include hx hb

/-- No score is minus infinity. -/
theorem score_ne (r : Fin 16384) : ∀ j < 64, score (rowOf x r) (betaOf b) j ≠ ⊥ := fun j hj => sub_ne (hx r j hj) (hb j hj)

/-- The column numbers that the gather takes: those of the rounds. -/
theorem words_apply (r : Fin 16384) (k : Fin 8) (z : Fin 1) : words x b (ix3 r k z) = BitVec.ofNat 32 (col (score (rowOf x r) (betaOf b)) k.val) := by
  unfold words
  pointwise
  exact wrapped_apply x b r k (score_ne hx hb r)

/-- They are within the row, so the gather's guard holds. -/
theorem inRange_apply (r : Fin 16384) (k : Fin 8) : inRange x b (ix2 r k) = 1#1 := by
  unfold inRange
  refine Host.reduce_andi_one _ _ _ _ _ rfl fun i => ?_
  idx_vars i
  pointwise
  rw [words_apply hx hb i0 i1 i2]
  exact word_range ⟨_, col_lt (score_ne hx hb i0) (show i1.val < 64 by omega)⟩

/-- What the gather takes: the row at the columns the rounds pick. -/
theorem picked_apply (r : Fin 16384) (k : Fin 8) : picked x b (ix2 r k) = rowOf x r (col (score (rowOf x r) (betaOf b)) k.val) := by
  have hc := col_lt (score_ne hx hb r) (show k.val < 64 by omega)
  have h1 : picked x b (ix2 r k) = Host.gather gd x (words x b) (ix2 r k) := by
    unfold picked
    show Scalar.select (inRange x b (ix2 r k)) _ _ = _
    rw [inRange_apply hx hb]
    rfl
  rw [h1, gather_apply x (words x b) r k ⟨_, hc⟩ (words_apply hx hb r k 0)]
  unfold rowOf
  exact congrArg (fun c => x (ix2 r c)) (Fin.ext (Nat.mod_eq_of_lt hc).symm)

/-- Divided by the temperature one, the same. -/
theorem scaled_apply (r : Fin 16384) (k : Fin 8) : scaled x b (ix2 r k) = rowOf x r (col (score (rowOf x r) (betaOf b)) k.val) := by
  unfold scaled
  pointwise
  rw [picked_apply hx hb r k]
  exact div_one _

/-- The greatest of a row's eight. -/
theorem peaks_apply (r : Fin 16384) : peaks x b (ix1 r) = peak (rowOf x r) (betaOf b) := by
  unfold peaks peak
  pointwise
  rw [show Ideal.ofBits .f32 4286578688#32 = ⊥ from ninf_eq]
  simp only [scaled_apply hx hb]

/-- The exponentials of the differences from it. -/
theorem expos_apply (r : Fin 16384) (k : Fin 8) : expos x b (ix2 r k) = expAt (rowOf x r) (betaOf b) k.val := by
  unfold expos expAt
  pointwise
  rw [scaled_apply hx hb r k, peaks_apply hx hb]

/-- The softmax of a row's eight. -/
theorem probs_apply (r : Fin 16384) (k : Fin 8) :
    probs x b (ix2 r k) = Ideal.div (expAt (rowOf x r) (betaOf b) k.val) (total (rowOf x r) (betaOf b)) := by
  unfold probs total
  pointwise
  simp only [expos_apply hx hb]

omit hx hb in
/-- The scatter's row numbers. -/
theorem pairs_row (r : Fin 16384) (k : Fin 8) : pairs x b (ix3 r k 0) = BitVec.ofNat 32 r.val := by
  unfold pairs rowWords
  pointwise
  refine Routing.wrap_of_lt _ _ ?_
  rw [BitVec.toNat_ofNat, Nat.mod_eq_of_lt (by omega)]
  omega

/-- The scatter's column numbers: those of the rounds. -/
theorem pairs_col (r : Fin 16384) (k : Fin 8) : pairs x b (ix3 r k 1) = BitVec.ofNat 32 (col (score (rowOf x r) (betaOf b)) k.val) := by
  unfold pairs
  pointwise
  exact wrapped_apply x b r k (score_ne hx hb r)

/-- The reference's result at an element is the row's. -/
theorem result_apply (r : Fin 16384) (j : Fin 64) : result x b (ix2 r j) = out (F := Ideal) (rowOf x r) (betaOf b) j.val := by
  rw [out_eq (hx r) hb]
  unfold result
  rw [ix2_eq_valueIdx]
  refine (ScatterToDense.scatter_eq_GS (T := 16384) (C := 64) (K := 8) scatter_S16384x64_S16384x8x2_S16384x8_n_01_01_2 rfl rfl rfl (by decide) (by decide)
    _ (pairs x b) (probs x b) (fun r k => BitVec.ofNat 32 (col (score (rowOf x r) (betaOf b)) k))
    (fun r k => Ideal.div (expAt (rowOf x r) (betaOf b) k) (total (rowOf x r) (betaOf b)))
    (fun i k => by rw [← ix3_eq_valueIdx]; exact pairs_row i k) (fun i k => by rw [← ix3_eq_valueIdx]; exact pairs_col hx hb i k)
    (fun i k => by rw [← ix2_eq_valueIdx]; exact probs_apply hx hb i k) r j).trans ?_
  have h0 : (broadcastInDim S16384x64 ![] bcast_S_S16384x64 (constant (F := Ideal) S_ .f32 0x00000000#32)) (ValueIdx.ix2 r j) = 0 := Ideal.ofBits_zero_f32
  rw [h0]
  unfold ScatterToDense.GS
  refine LaneScatter.lastHit_congr _ (fun k hk => ?_) (fun _ _ _ => rfl)
  rw [BitVec.toNat_ofNat, Nat.mod_eq_of_lt ((col_lt (score_ne hx hb r) (show k < 64 by omega)).trans (by decide))]

end

end Cert.Proof.Ref
-- ==== Proof.Algebraic.lean ====
/-
  THE VALUE CLAIM: over the extended reals, from finite arguments, the kernel and the reference end with one result.
-/
module

public import proofs.«01_k».proof.Defs
public import proofs.«01_k».proof.Proof.Launch
public import proofs.«01_k».proof.Proof.RefVal
public import proofs.«01_k».proof.Proof.Gen.Pre_finite
public import proofs.«01_k».proof.Proof.Gen.ReferenceIdeal.Run

@[expose] public section

noncomputable section

namespace Cert.Proof

open Idealize.ShloMosaic Idealize.SL.Sem
open Cert.Proof.Row Cert.Proof.Ref

/-! ## What the precondition gives -/

/-- An absolute value below plus infinity is a finite value's. -/
theorem finite_of_abs {a : EReal} (h : FloatOps.cmpf (F := Ideal) (φ := .f32) .olt (max a (-a)) (Ideal.ofBits .f32 0x7F800000#32) = 1#1) : IsReal a := by
  have ht : Ideal.ofBits .f32 0x7F800000#32 = ⊤ := by simp [Ideal.ofBits, Ideal.ieee]
  rw [ht] at h
  have h' : max a (-a) < ⊤ := by
    by_contra hc
    have : BitVec.ofBool (decide (max a (-a) < (⊤ : EReal))) = 1#1 := h
    rw [decide_eq_false hc] at this
    exact absurd this (by decide)
  constructor
  · rintro rfl; simp at h'
  · rintro rfl; simp at h'

section
variable {x : FVec Ideal Cert.Pre_finite.S16384x64 .f32} {b : FVec Ideal Cert.Pre_finite.S64 .f32}

/-- The precondition, element by element: both arguments finite. -/
theorem pre_parts (h : Cert.Pre_finite.fn (F := Ideal) x b = fun _ => 1#1) : (∀ i, IsReal (x i)) ∧ ∀ i, IsReal (b i) := by
  have h0 := congrFun h ValueIdx.ix0
  dsimp only [Cert.Pre_finite.fn] at h0
  obtain ⟨h1, h2⟩ := IntOp.andi_eq_one.1 h0
  haveI : Subsingleton Cert.Pre_finite.S_.Idx := ⟨fun i j => funext fun a => a.elim0⟩
  exact ⟨fun i => finite_of_abs (Host.reduce_andi_all _ _ _ _ _ h1 i), fun i => finite_of_abs (Host.reduce_andi_all _ _ _ _ _ h2 i)⟩
end

/-! ## The kernel's result, element by element -/

section
open Cert.KernelIdeal Cert.KernelIdeal.Facts₀ Cert.Proof.Run
variable (m : (ℓ : Loc nD τ sig) → Buf (Elt Ideal) ℓ) (d : Dev nD)

/-- The place of a row's word among all words. -/
theorem flat_place (r : Fin 16384) (j : Fin 64) : cell 1048576 (64 * r.val + j.val) = ix1 (⟨r.val * 64 + j.val, by omega⟩ : Fin 1048576) := by
  refine idx_ext ?_
  rw [cell_val (by omega)]
  show 64 * r.val + j.val = r.val * 64 + j.val
  omega

/-- The flat argument at a row's word. -/
theorem xs_apply (r : Fin 16384) (j : Fin 64) : (xs m d : FVec Ideal S1048576 .f32) (cell 1048576 (64 * r.val + j.val)) = (m (aLoc d) : FVec Ideal S16384x64 .f32) (ix2 r j) := by
  have e : (xs m d : FVec Ideal S1048576 .f32) = shapeCast S1048576 (m (aLoc d) : FVec Ideal S16384x64 .f32) shapeCasts_S16384x64_S1048576 :=
    StableHlo.reshape_result main_arg0 main_v0 rfl shapeCasts_S16384x64_S1048576 _ _ (V0 m d)
  rw [e, flat_place]
  pointwise

/-- The result at a row's word, of the flat result. -/
theorem out_apply (r : Fin 16384) (j : Fin 64) : (V3 m d r' : FVec Ideal S16384x64 .f32) (ix2 r j)
    = (rs m d : FVec Ideal S1048576 .f32) (cell 1048576 (64 * r.val + j.val)) := by
  have e : (V3 m d r' : FVec Ideal S16384x64 .f32) = shapeCast S16384x64 (V2 m d o' : FVec Ideal S1048576 .f32) shapeCasts_S1048576_S16384x64 :=
    StableHlo.reshape_result main_v1 main_v2 rfl shapeCasts_S1048576_S16384x64 _ _ (V2 m d)
  rw [e, V2_o, flat_place]
  pointwise

/-- The kernel's result at a row's word: the row's own result there. -/
theorem kernel_apply (r : Fin 16384) (j : Fin 64) : (V3 m d r' : FVec Ideal S16384x64 .f32) (ix2 r j)
    = out (F := Ideal) (rowOf (m (aLoc d) : FVec Ideal S16384x64 .f32) r) (betaOf (m (bLoc d) : FVec Ideal S64 .f32)) j.val := by
  rw [out_apply]
  have hn : (cell 1048576 (64 * r.val + j.val) 0).val = 64 * r.val + j.val := cell_val (by omega)
  have hb : (bs m d : FVec Ideal S64 .f32) = (m (bLoc d) : FVec Ideal S64 .f32) := V1_ne m d (by decide)
  show out (F := Ideal) (fun j' => xs m d (cell 1048576 (64 * ((cell 1048576 (64 * r.val + j.val) 0).val / 64) + j')))
    (fun j' => bs m d (cell 64 j')) ((cell 1048576 (64 * r.val + j.val) 0).val % 64) = _
  rw [hn, hb, show (64 * r.val + j.val) / 64 = r.val by omega, show (64 * r.val + j.val) % 64 = j.val by omega]
  have hβ : (fun j' => (m (bLoc d) : FVec Ideal S64 .f32) (cell 64 j')) = betaOf (m (bLoc d) : FVec Ideal S64 .f32) := by
    funext j'
    exact congrArg (m (bLoc d) : FVec Ideal S64 .f32) (idx_ext rfl)
  rw [hβ]
  refine congrFun (out_congr fun j' hj' => ?_) _
  refine (xs_apply m d r ⟨j', hj'⟩).trans ?_
  exact congrArg (m (aLoc d) : FVec Ideal S16384x64 .f32) (congrArg (ix2 r) (Fin.ext (Nat.mod_eq_of_lt hj').symm))
end

/-- The reference's term is the stages'. -/
theorem ref_eq (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v34 (F := Ideal) m c
      = result (m ((c.tc : Thread Cert.ReferenceIdeal.nD Cert.ReferenceIdeal.τ).loc Cert.ReferenceIdeal.main_arg0))
        (m ((c.tc : Thread Cert.ReferenceIdeal.nD Cert.ReferenceIdeal.τ).loc Cert.ReferenceIdeal.main_arg1)) := by
  unfold Cert.ReferenceIdeal.Value.res_main_v34
  rfl

/-- The kernel and the reference, over the extended reals, from finite arguments. -/
theorem algebraic : Cert.algebraic_KernelIdeal_ReferenceIdeal_pre_finite := by
  intro m g m' g' hpre hagree
  refine ⟨fun c => Run.V3 m c Run.r', (θ_run Cert.KernelIdeal.defs _ _).mono (fun _ h c => ?_) (Run.run_main (F := Ideal) m g),
    (θ_run Cert.ReferenceIdeal.defs _ _).mono (fun r h c => ⟨(h c).1.trans ?_, (h c).2⟩) (Cert.ReferenceIdeal.Value.run (F := Ideal) m' g')⟩
  · exact ⟨(h.1 c).2.2, (h.1 c).1.trans (Run.V3_a m c), (h.1 c).2.1.trans (Run.V3_b m c)⟩
  · rw [ref_eq, (hagree c).1, (hagree c).2]
    obtain ⟨hx, hb⟩ := pre_parts (hpre c)
    funext i
    obtain ⟨r, j, rfl⟩ : ∃ (r : Fin 16384) (j : Fin 64), i = ix2 r j := ⟨i 0, i 1, eq_ix2 i⟩
    exact (result_apply (fun r j _ => hx _) (fun j _ => hb _) r j).trans (kernel_apply m c r j).symm

end Cert.Proof

end
-- ==== Proof.lean ====
/- The proof of the certificate's claim (Defs.lean), from the frames and the value claim. -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_finite
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- All the claims: the frames, also from the precondition that the value claim takes, and the value claim. -/
theorem claim : Cert.Claim :=
  ⟨Cert.Kernel.Gen.facts, Cert.KernelIdeal.Gen.facts, Cert.ReferenceIdeal.Gen.facts, Cert.Pre_finite.Gen.facts,
    frame_kernel, frame_ideal, fun m ρ _ => frame_ideal m ρ trivial, frame_reference, fun m ρ _ => frame_reference m ρ trivial,
    trivial, algebraic⟩

end Cert.Proof

end
